-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S2x1024x512 : Shape := ⟨3, ![2, 1024, 512]⟩
abbrev S3x4x1024x512 : Shape := ⟨4, ![3, 4, 1024, 512]⟩
abbrev S2 : Shape := ⟨1, ![2]⟩
abbrev S3x4 : Shape := ⟨2, ![3, 4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩
abbrev S1x1 : Shape := ⟨2, ![1, 1]⟩
abbrev S1x1x1024x512 : Shape := ⟨4, ![1, 1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4096x2048, .f32⟩
  | .local _ .vmem, ⟨0, _⟩ => ⟨S1024x4096, .f32⟩
  | .local _ .vmem, ⟨1, _⟩ => ⟨S2x4096x512, .f32⟩
  | .local _ .vmem, ⟨2, _⟩ => ⟨S2x1024x512, .bf16⟩
  | .local _ .vmem, ⟨3, _⟩ => ⟨S2x1024x512, .f32⟩
  | .local _ .vmem, ⟨4, _⟩ => ⟨S3x4x1024x512, .bf16⟩
  | .local _ .vmem, ⟨5, _⟩ => ⟨S2x1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) (c0_i32_15 : BitVec 32) : Fin 2 → Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c2048_i32 : BitVec 32 := 2048#32
  let v18 : BitVec 32 := Scalar.muli v17 c2048_i32
  let v19 : BitVec 32 := Scalar.addi v18 c0_i32_15
  ![0, v19.toNat]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v65 : BitVec 32 := Scalar.addi v2 c1_i32_50
  let c4_i32_51 : BitVec 32 := 4#32
  let v66 : BitVec 32 := Scalar.remsi v65 c4_i32_51
  let c1_i32_59 : BitVec 32 := 1#32
  let v67 : BitVec 32 := Scalar.muli v66 c1_i32_59
  let v68 : BitVec 32 := Scalar.addi c0_i32_60 v67
  v68.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v117 : BitVec 32 := Scalar.addi v2 c3_i32_95
  let c4_i32_96 : BitVec 32 := 4#32
  let v118 : BitVec 32 := Scalar.remsi v117 c4_i32_96
  let c1_i32_104 : BitVec 32 := 1#32
  let v119 : BitVec 32 := Scalar.muli v118 c1_i32_104
  let v120 : BitVec 32 := Scalar.addi c0_i32_105 v119
  v120.toNat
def k0_dev6 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  let v177 : BitVec 32 := Scalar.addi v2 c2_i32_154
  let c4_i32_155 : BitVec 32 := 4#32
  let v178 : BitVec 32 := Scalar.remsi v177 c4_i32_155
  let c1_i32_163 : BitVec 32 := 1#32
  let v179 : BitVec 32 := Scalar.muli v178 c1_i32_163
  let v180 : BitVec 32 := Scalar.addi c0_i32_164 v179
  v180.toNat
def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_214 : BitVec 32 := 1#32
  let v237 : BitVec 32 := Scalar.addi v2 c1_i32_214
  let c4_i32_215 : BitVec 32 := 4#32
  let v238 : BitVec 32 := Scalar.remsi v237 c4_i32_215
  let c1_i32_223 : BitVec 32 := 1#32
  let v239 : BitVec 32 := Scalar.muli v238 c1_i32_223
  let v240 : BitVec 32 := Scalar.addi c0_i32_224 v239
  v240.toNat
def k0_dev8 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_274 : BitVec 32 := 3#32
  let v297 : BitVec 32 := Scalar.addi v2 c3_i32_274
  let c4_i32_275 : BitVec 32 := 4#32
  let v298 : BitVec 32 := Scalar.remsi v297 c4_i32_275
  let c1_i32_283 : BitVec 32 := 1#32
  let v299 : BitVec 32 := Scalar.muli v298 c1_i32_283
  let v300 : BitVec 32 := Scalar.addi c0_i32_284 v299
  v300.toNat
def k0_dev9 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_333 : BitVec 32 := 2#32
  let v357 : BitVec 32 := Scalar.addi v2 c2_i32_333
  let c4_i32_334 : BitVec 32 := 4#32
  let v358 : BitVec 32 := Scalar.remsi v357 c4_i32_334
  let c1_i32_342 : BitVec 32 := 1#32
  let v359 : BitVec 32 := Scalar.muli v358 c1_i32_342
  let v360 : BitVec 32 := Scalar.addi c0_i32_343 v359
  v360.toNat
def k0_dev10 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v417 : BitVec 32 := Scalar.addi v2 c1_i32_393
  let c4_i32_394 : BitVec 32 := 4#32
  let v418 : BitVec 32 := Scalar.remsi v417 c4_i32_394
  let c1_i32_402 : BitVec 32 := 1#32
  let v419 : BitVec 32 := Scalar.muli v418 c1_i32_402
  let v420 : BitVec 32 := Scalar.addi c0_i32_403 v419
  v420.toNat
def k0_dev11 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_453 : BitVec 32 := 3#32
  let v477 : BitVec 32 := Scalar.addi v2 c3_i32_453
  let c4_i32_454 : BitVec 32 := 4#32
  let v478 : BitVec 32 := Scalar.remsi v477 c4_i32_454
  let c1_i32_462 : BitVec 32 := 1#32
  let v479 : BitVec 32 := Scalar.muli v478 c1_i32_462
  let v480 : BitVec 32 := Scalar.addi c0_i32_463 v479
  v480.toNat
def k0_dev12 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_512 : BitVec 32 := 2#32
  let v537 : BitVec 32 := Scalar.addi v2 c2_i32_512
  let c4_i32_513 : BitVec 32 := 4#32
  let v538 : BitVec 32 := Scalar.remsi v537 c4_i32_513
  let c1_i32_521 : BitVec 32 := 1#32
  let v539 : BitVec 32 := Scalar.muli v538 c1_i32_521
  let v540 : BitVec 32 := Scalar.addi c0_i32_522 v539
  v540.toNat
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_572 : BitVec 32 := 1#32
  let v597 : BitVec 32 := Scalar.addi v2 c1_i32_572
  let c4_i32_573 : BitVec 32 := 4#32
  let v598 : BitVec 32 := Scalar.remsi v597 c4_i32_573
  let c1_i32_581 : BitVec 32 := 1#32
  let v599 : BitVec 32 := Scalar.muli v598 c1_i32_581
  let v600 : BitVec 32 := Scalar.addi c0_i32_582 v599
  v600.toNat
def k0_dev14 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_632 : BitVec 32 := 3#32
  let v657 : BitVec 32 := Scalar.addi v2 c3_i32_632
  let c4_i32_633 : BitVec 32 := 4#32
  let v658 : BitVec 32 := Scalar.remsi v657 c4_i32_633
  let c1_i32_641 : BitVec 32 := 1#32
  let v659 : BitVec 32 := Scalar.muli v658 c1_i32_641
  let v660 : BitVec 32 := Scalar.addi c0_i32_642 v659
  v660.toNat
def k0_dev15 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_692 : BitVec 32 := 2#32
  let v717 : BitVec 32 := Scalar.addi v2 c2_i32_692
  let c4_i32_693 : BitVec 32 := 4#32
  let v718 : BitVec 32 := Scalar.remsi v717 c4_i32_693
  let c1_i32_701 : BitVec 32 := 1#32
  let v719 : BitVec 32 := Scalar.muli v718 c1_i32_701
  let v720 : BitVec 32 := Scalar.addi c0_i32_702 v719
  v720.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_738 : BitVec 32 := 1024#32
  let v768 : BitVec 32 := Scalar.muli v2 c1024_i32_738
  let c0_i32_741 : BitVec 32 := 0#32
  ![v768.toNat, 0]
def k0_off3 (d0 : Dev nD) (c1_i32_765 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v788 : BitVec 32 := Scalar.subi v2 c1_i32_765
  let c4_i32_766 : BitVec 32 := 4#32
  let v789 : BitVec 32 := Scalar.addi v788 c4_i32_766
  let c4_i32_767 : BitVec 32 := 4#32
  let v790 : BitVec 32 := Scalar.remsi v789 c4_i32_767
  let c1024_i32_768 : BitVec 32 := 1024#32
  let v791 : BitVec 32 := Scalar.muli v790 c1024_i32_768
  let c0_i32_771 : BitVec 32 := 0#32
  ![v791.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_834 : BitVec 32 := 1024#32
  let v859 : BitVec 32 := Scalar.muli v2 c1024_i32_834
  let c512_i32_837 : BitVec 32 := 512#32
  ![v859.toNat, 512]
def k0_off5 (d0 : Dev nD) (c1_i32_909 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v920 : BitVec 32 := Scalar.subi v2 c1_i32_909
  let c4_i32_910 : BitVec 32 := 4#32
  let v921 : BitVec 32 := Scalar.addi v920 c4_i32_910
  let c4_i32_911 : BitVec 32 := 4#32
  let v922 : BitVec 32 := Scalar.remsi v921 c4_i32_911
  let c1024_i32_912 : BitVec 32 := 1024#32
  let v923 : BitVec 32 := Scalar.muli v922 c1024_i32_912
  let c512_i32_915 : BitVec 32 := 512#32
  ![v923.toNat, 512]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_955 : BitVec 32 := 1024#32
  let v974 : BitVec 32 := Scalar.muli v2 c1024_i32_955
  let c1024_i32_958 : BitVec 32 := 1024#32
  ![v974.toNat, 1024]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1067 : BitVec 32 := 1024#32
  let v1080 : BitVec 32 := Scalar.muli v2 c1024_i32_1067
  let c1536_i32_1070 : BitVec 32 := 1536#32
  ![v1080.toNat, 1536]
def k0_off8 (d0 : Dev nD) (c1_i32_1103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1109 : BitVec 32 := Scalar.subi v2 c1_i32_1103
  let c4_i32_1104 : BitVec 32 := 4#32
  let v1110 : BitVec 32 := Scalar.addi v1109 c4_i32_1104
  let c4_i32_1105 : BitVec 32 := 4#32
  let v1111 : BitVec 32 := Scalar.remsi v1110 c4_i32_1105
  let c1024_i32_1106 : BitVec 32 := 1024#32
  let v1112 : BitVec 32 := Scalar.muli v1111 c1024_i32_1106
  let c1024_i32_1109 : BitVec 32 := 1024#32
  ![v1112.toNat, 1024]
def k0_off9 (d0 : Dev nD) (c1_i32_1259 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1233 : BitVec 32 := Scalar.subi v2 c1_i32_1259
  let c4_i32_1260 : BitVec 32 := 4#32
  let v1234 : BitVec 32 := Scalar.addi v1233 c4_i32_1260
  let c4_i32_1261 : BitVec 32 := 4#32
  let v1235 : BitVec 32 := Scalar.remsi v1234 c4_i32_1261
  let c1024_i32_1262 : BitVec 32 := 1024#32
  let v1236 : BitVec 32 := Scalar.muli v1235 c1024_i32_1262
  let c1536_i32_1265 : BitVec 32 := 1536#32
  ![v1236.toNat, 1536]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
# The kernel's body as a sequence of named steps

The printed body is a flat list of about two hundred memory operations. Here each KIND of operation the kernel repeats —
start a load of a weight tile, wait for it, compute a tile and store it, send it, take a received tile apart — is one
small program, parametric in the slot, the semaphore and the tile it works on, and the body is their sequence
(`body_eq`). The proof of the run then treats each kind once.
-/
module

public import proofs.«01_k».proof.Proof.Gen.KernelIdeal
public import proofs.«01_k».proof.Proof.Gen.KernelIdeal.Skeleton

@[expose] public section

noncomputable section

namespace Cert.K

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .vmem S1024x4096 .f32 := Memref.whole cc0_stg0_0
abbrev wM : Memref sig .tc .hbm S4096x8192 .f32 := Memref.whole main_arg1
abbrev oM : Memref sig .tc .hbm S4096x2048 .f32 := Memref.whole main_v1
abbrev wbM : Memref sig .tc .vmem S2x4096x512 .f32 := Memref.whole cc0_scratch0
abbrev s16M : Memref sig .tc .vmem S2x1024x512 .bf16 := Memref.whole cc0_scratch1
abbrev s32M : Memref sig .tc .vmem S2x1024x512 .f32 := Memref.whole cc0_scratch2
abbrev rvM : Memref sig .tc .vmem S3x4x1024x512 .bf16 := Memref.whole cc0_scratch3
abbrev cvM : Memref sig .tc .vmem S2x1024x512 .f32 := Memref.whole cc0_scratch4

/-! ## Rectangles: a slot of a two-slot buffer, a landing slot, a semaphore of an array, a tile of the weights, of the result -/

theorem inb_w {k : ℕ} (hk : k < 2) : ∀ a, (![k, 0, 0] : Fin 3 → ℕ) a + S1x4096x512.size a ≤ S2x4096x512.size a := by
  intro a; fin_cases a <;> simp <;> omega
theorem inb_t {k : ℕ} (hk : k < 2) : ∀ a, (![k, 0, 0] : Fin 3 → ℕ) a + S1x1024x512.size a ≤ S2x1024x512.size a := by
  intro a; fin_cases a <;> simp <;> omega
theorem inb_r {a b : ℕ} (ha : a < 3) (hb : b < 4) : ∀ i, (![a, b, 0, 0] : Fin 4 → ℕ) i + S1x1x1024x512.size i ≤ S3x4x1024x512.size i := by
  intro i; fin_cases i <;> simp <;> omega
theorem inb_s2 {k : ℕ} (hk : k < 2) : ∀ a, (![k] : Fin 1 → ℕ) a + S1.size a ≤ S2.size a := by
  intro i; fin_cases i; simp; omega
theorem inb_s34 {a b : ℕ} (ha : a < 3) (hb : b < 4) : ∀ i, (![a, b] : Fin 2 → ℕ) i + S1x1.size i ≤ S3x4.size i := by
  intro i; fin_cases i <;> simp <;> omega

theorem words_t {k : ℕ} (hk : k < 2) : (Rect.unit (s := S2x1024x512) ![k, 0, 0] S1x1024x512.size (inb_t hk)).WholeWords (EltTy.packing .bf16) :=
  match k, hk with
  | 0, _ => wordsbf16_S2x1024x512_S1x1024x512_0_0_0
  | 1, _ => wordsbf16_S2x1024x512_S1x1024x512_1_0_0
theorem packed_t {k : ℕ} (hk : k < 2) : (Rect.unit (s := S2x1024x512) ![k, 0, 0] S1x1024x512.size (inb_t hk)).PackedRows (EltTy.packing .bf16) :=
  match k, hk with
  | 0, _ => packedbf16_S2x1024x512_S1x1024x512_0_0_0
  | 1, _ => packedbf16_S2x1024x512_S1x1024x512_1_0_0
theorem words_r' : ∀ (a : Fin 3) (b : Fin 4),
    (Rect.unit (s := S3x4x1024x512) ![a.val, b.val, 0, 0] S1x1x1024x512.size (inb_r a.isLt b.isLt)).WholeWords (EltTy.packing .bf16) := by decide +kernel
theorem words_r {a b : ℕ} (ha : a < 3) (hb : b < 4) :
    (Rect.unit (s := S3x4x1024x512) ![a, b, 0, 0] S1x1x1024x512.size (inb_r ha hb)).WholeWords (EltTy.packing .bf16) := words_r' ⟨a, ha⟩ ⟨b, hb⟩

abbrev wR (k : ℕ) (hk : k < 2) : Rect S2x4096x512 := Rect.unit (s := S2x4096x512) ![k, 0, 0] S1x4096x512.size (inb_w hk)
abbrev tR (k : ℕ) (hk : k < 2) : Rect S2x1024x512 := Rect.unit (s := S2x1024x512) ![k, 0, 0] S1x1024x512.size (inb_t hk)
abbrev rR (a b : ℕ) (ha : a < 3) (hb : b < 4) : Rect S3x4x1024x512 := Rect.unit (s := S3x4x1024x512) ![a, b, 0, 0] S1x1x1024x512.size (inb_r ha hb)
abbrev xR : Rect S1024x4096 := Rect.unit (s := S1024x4096) ![0, 0] S1024x4096.size inb_S1024x4096_S1024x4096_0_0

/-- The weight tile at an offset. -/
abbrev wTile (off : Fin 2 → ℕ) (ho : ∀ a, off a + S4096x512.size a ≤ S4096x8192.size a) : Memref sig .tc .hbm S4096x512 .f32 :=
  wM.slice (Rect.unit (s := S4096x8192) off S4096x512.size ho) (fun _ => rfl)
/-- The tile of the result at an offset. -/
abbrev oTile (off : Fin 2 → ℕ) (ho : ∀ a, off a + S1024x512.size a ≤ S4096x2048.size a) : Memref sig .tc .hbm S1024x512 .f32 :=
  oM.slice (Rect.unit (s := S4096x2048) off S1024x512.size ho) (fun _ => rfl)
/-- Slot `k` of the weight buffer, of the two staging buffers of computed tiles, of the conversion buffer; landing slot `(a, b)`. -/
abbrev wSlot (k : ℕ) (hk : k < 2) : Memref sig .tc .vmem S4096x512 .f32 := (wbM.slice (wR k hk) (fun _ => rfl)).squeeze S4096x512 squeezes_S1x4096x512_S4096x512
abbrev s16 (k : ℕ) (hk : k < 2) : Memref sig .tc .vmem S1024x512 .bf16 := (s16M.slice (tR k hk) (fun _ => rfl)).squeeze S1024x512 squeezes_S1x1024x512_S1024x512
abbrev s32 (k : ℕ) (hk : k < 2) : Memref sig .tc .vmem S1024x512 .f32 := (s32M.slice (tR k hk) (fun _ => rfl)).squeeze S1024x512 squeezes_S1x1024x512_S1024x512
abbrev cv (k : ℕ) (hk : k < 2) : Memref sig .tc .vmem S1024x512 .f32 := (cvM.slice (tR k hk) (fun _ => rfl)).squeeze S1024x512 squeezes_S1x1024x512_S1024x512
abbrev rv (a b : ℕ) (ha : a < 3) (hb : b < 4) : Memref sig .tc .vmem S1024x512 .bf16 :=
  (rvM.slice (rR a b ha hb) (fun _ => rfl)).squeeze S1024x512 squeezes_S1x1x1024x512_S1024x512

/-- The semaphores: loads, local copies, conversions (by slot), sends and receives (by landing slot). -/
abbrev ldS (k : ℕ) (hk : k < 2) : DmaSem sig := ((cc0_scratch5.slice (Rect.unit (s := S2) ![k] S1.size (inb_s2 hk))).squeeze S_ squeezes_S1_S_).sem
abbrev loS (k : ℕ) (hk : k < 2) : DmaSem sig := ((cc0_scratch6.slice (Rect.unit (s := S2) ![k] S1.size (inb_s2 hk))).squeeze S_ squeezes_S1_S_).sem
abbrev cvS (k : ℕ) (hk : k < 2) : DmaSem sig := ((cc0_scratch7.slice (Rect.unit (s := S2) ![k] S1.size (inb_s2 hk))).squeeze S_ squeezes_S1_S_).sem
abbrev snS (a b : ℕ) (ha : a < 3) (hb : b < 4) : DmaSem sig :=
  ((cc0_scratch8.slice (Rect.unit (s := S3x4) ![a, b] S1x1.size (inb_s34 ha hb))).squeeze S_ squeezes_S1x1_S_).sem
abbrev rcS (a b : ℕ) (ha : a < 3) (hb : b < 4) : DmaSem sig :=
  ((cc0_scratch9.slice (Rect.unit (s := S3x4) ![a, b] S1x1.size (inb_s34 ha hb))).squeeze S_ squeezes_S1x1_S_).sem
/-- The runtime's barrier semaphore. -/
abbrev barS : Sem sig := (SemArray.scalar (sig.barrier 0 rfl) : Sems sig S_).sem

/-! ## The steps -/

/-- Start loading the weight tile at `off` into slot `k`. -/
def ldStart (k : ℕ) (hk : k < 2) (off : Fin 2 → ℕ) (ho : ∀ a, off a + S4096x512.size a ≤ S4096x8192.size a) : Prog (TpuEff nD τ sig (Elt F) Λ₀ .tc) PUnit :=
  Prog.lift (.enqueueDma (wTile off ho) (.here (wSlot k hk)) (.dma (ldS k hk)) (View.wordExact_bits rfl) ((View.wordExact_bits rfl).reshape _ _) ⟨Or.inl rfl, trivial⟩)
/-- Wait for it. -/
def ldWait (k : ℕ) (hk : k < 2) (off : Fin 2 → ℕ) (ho : ∀ a, off a + S4096x512.size a ≤ S4096x8192.size a) : Prog (TpuEff nD τ sig (Elt F) Λ₀ .tc) PUnit :=
  Prog.lift (.waitDma2 (ldS k hk) (wTile off ho) (wSlot k hk) (View.wordExact_bits rfl) ((View.wordExact_bits rfl).reshape _ _))
/-- Read the block of `x`. -/
def ldX : Prog (TpuEff nD τ sig (Elt F) Λ₀ .tc) (Vec F S1024x4096 .f32) :=
  Prog.lift (.load xM xR.toLoadRect (View.loadsAt_vmem h_S1024x4096))
/-- Read slot `k` of the weight buffer. -/
def ldW (k : ℕ) (hk : k < 2) : Prog (TpuEff nD τ sig (Elt F) Λ₀ .tc) (Vec F S1x4096x512 .f32) :=
  Prog.lift (.load wbM (wR k hk).toLoadRect (View.loadsAt_vmem h_S1x4096x512))
/-- Store a computed tile, narrowed, in slot `k` (the store reads the slot first and drops what it read). -/
def st16 (k : ℕ) (hk : k < 2) (p : FVec F S1x1024x512 .bf16) : Prog (TpuEff nD τ sig (Elt F) Λ₀ .tc) PUnit := do
  let _ : Vec F S1x1024x512 .bf16 ← Prog.lift (.load s16M (tR k hk).toLoadRect (View.loadsAt_vmem h_S1x1024x512))
  Prog.lift (.store s16M (tR k hk) p Finset.univ
    (View.stores_vmem h_S1x1024x512 ((Memref.isWhole_whole cc0_scratch1).storeExact_slice rfl _ (packed_t hk)) (fun _ => rfl)) (.inl rfl))
/-- Store a computed tile in slot `k`. -/
def st32 (k : ℕ) (hk : k < 2) (p : FVec F S1x1024x512 .f32) : Prog (TpuEff nD τ sig (Elt F) Λ₀ .tc) PUnit := do
  let _ : Vec F S1x1024x512 .f32 ← Prog.lift (.load s32M (tR k hk).toLoadRect (View.loadsAt_vmem h_S1x1024x512))
  Prog.lift (.store s32M (tR k hk) p Finset.univ (View.stores_vmem_bits_univ h_S1x1024x512 rfl) (.inl rfl))
/-- Send slot `k` to landing slot `(a, b)` of device `n`. -/
def send (n : Dev nD) (a b : ℕ) (ha : a < 3) (hb : b < 4) (k : ℕ) (hk : k < 2) : Prog (TpuEff nD τ sig (Elt F) Λ₀ .tc) PUnit :=
  Prog.lift (.enqueueDma (s16 k hk) (.remote (Dev.tc n) (rv a b ha hb) (.dma (snS a b ha hb))) (.dma (rcS a b ha hb))
    (((Memref.isWhole_whole cc0_scratch1).wordExact_slice rfl _ (words_t hk)).reshape _ _)
    (((Memref.isWhole_whole cc0_scratch3).wordExact_slice rfl _ (words_r ha hb)).reshape _ _) ⟨⟨rfl, Or.inl rfl⟩, trivial⟩)
/-- Wait until the send out of slot `k` to landing slot `(a, b)` has read it. -/
def sendWait (a b : ℕ) (ha : a < 3) (hb : b < 4) (k : ℕ) (hk : k < 2) : Prog (TpuEff nD τ sig (Elt F) Λ₀ .tc) PUnit :=
  Prog.lift (.waitDma2 (snS a b ha hb) (rv a b ha hb) (s16 k hk)
    (((Memref.isWhole_whole cc0_scratch3).wordExact_slice rfl _ (words_r ha hb)).reshape _ _)
    (((Memref.isWhole_whole cc0_scratch1).wordExact_slice rfl _ (words_t hk)).reshape _ _))
/-- Start copying slot `k` of this device's own tiles to the result. -/
def loStart (k : ℕ) (hk : k < 2) (off : Fin 2 → ℕ) (ho : ∀ a, off a + S1024x512.size a ≤ S4096x2048.size a) : Prog (TpuEff nD τ sig (Elt F) Λ₀ .tc) PUnit :=
  Prog.lift (.enqueueDma (s32 k hk) (.here (oTile off ho)) (.dma (loS k hk)) ((View.wordExact_bits rfl).reshape _ _) (View.wordExact_bits rfl) ⟨Or.inl rfl, trivial⟩)
def loWait (k : ℕ) (hk : k < 2) (off : Fin 2 → ℕ) (ho : ∀ a, off a + S1024x512.size a ≤ S4096x2048.size a) : Prog (TpuEff nD τ sig (Elt F) Λ₀ .tc) PUnit :=
  Prog.lift (.waitDma2 (loS k hk) (s32 k hk) (oTile off ho) ((View.wordExact_bits rfl).reshape _ _) (View.wordExact_bits rfl))
/-- Wait for the tile landing in slot `(a, b)` (the wait names send slot `k` as the source). -/
def recvWait (a b : ℕ) (ha : a < 3) (hb : b < 4) (k : ℕ) (hk : k < 2) : Prog (TpuEff nD τ sig (Elt F) Λ₀ .tc) PUnit :=
  Prog.lift (.waitDma2 (rcS a b ha hb) (s16 k hk) (rv a b ha hb)
    (((Memref.isWhole_whole cc0_scratch1).wordExact_slice rfl _ (words_t hk)).reshape _ _)
    (((Memref.isWhole_whole cc0_scratch3).wordExact_slice rfl _ (words_r ha hb)).reshape _ _))
/-- Read the landed tile, widen it and store it in conversion slot `k`. -/
def conv (a b : ℕ) (ha : a < 3) (hb : b < 4) (k : ℕ) (hk : k < 2) : Prog (TpuEff nD τ sig (Elt F) Λ₀ .tc) PUnit := do
  let v : Vec F S1x1x1024x512 .bf16 ← Prog.lift (.load rvM (rR a b ha hb).toLoadRect (View.loadsAt_vmem h_S1x1x1024x512))
  let _ : Vec F S1x1024x512 .f32 ← Prog.lift (.load cvM (tR k hk).toLoadRect (View.loadsAt_vmem h_S1x1024x512))
  Prog.lift (.store cvM (tR k hk) (k0_pay33 v) Finset.univ (View.stores_vmem_bits_univ h_S1x1024x512 rfl) (.inl rfl))
/-- Start copying conversion slot `k` to the result. -/
def cvStart (k : ℕ) (hk : k < 2) (off : Fin 2 → ℕ) (ho : ∀ a, off a + S1024x512.size a ≤ S4096x2048.size a) : Prog (TpuEff nD τ sig (Elt F) Λ₀ .tc) PUnit :=
  Prog.lift (.enqueueDma (cv k hk) (.here (oTile off ho)) (.dma (cvS k hk)) ((View.wordExact_bits rfl).reshape _ _) (View.wordExact_bits rfl) ⟨Or.inl rfl, trivial⟩)
def cvWait (k : ℕ) (hk : k < 2) (off : Fin 2 → ℕ) (ho : ∀ a, off a + S1024x512.size a ≤ S4096x2048.size a) : Prog (TpuEff nD τ sig (Elt F) Λ₀ .tc) PUnit :=
  Prog.lift (.waitDma2 (cvS k hk) (cv k hk) (oTile off ho) ((View.wordExact_bits rfl).reshape _ _) (View.wordExact_bits rfl))

end Cert.K

end
-- ==== Proof.BodyEq.lean ====
/-
# The body is the sequence of its steps

`body` lists the steps in the kernel's own order; `body_eq` says the printed body, read at the call's buffers, is that
list.
-/
module

public import proofs.«01_k».proof.Proof.Steps

@[expose] public section

noncomputable section

namespace Cert.K

open Cert.KernelIdeal Cert.KernelIdeal.Gen
open Idealize.ShloMosaic Idealize.ShloMosaic.TcCoe
open Idealize.SL Idealize.SL.Sem

variable {F : FTy → Type} [FloatOps F]

/-- Wait for the weight tile in slot `k`, and compute from it the tile another device receives. -/
def comp16 (k : ℕ) (hk : k < 2) (off : Fin 2 → ℕ) (ho : ∀ a, off a + S4096x512.size a ≤ S4096x8192.size a) :
    Prog (TpuEff nD τ sig (Elt F) Λ₀ .tc) (FVec F S1x1024x512 .bf16) := do
  ldWait k hk off ho
  let x ← ldX
  let w ← ldW k hk
  pure (k0_pay5 x w)
/-- Wait for the weight tile in slot `k`, and compute from it a tile of this device's own columns. -/
def comp32 (k : ℕ) (hk : k < 2) (off : Fin 2 → ℕ) (ho : ∀ a, off a + S4096x512.size a ≤ S4096x8192.size a) :
    Prog (TpuEff nD τ sig (Elt F) Λ₀ .tc) (FVec F S1x1024x512 .f32) := do
  ldWait k hk off ho
  let x ← ldX
  let w ← ldW k hk
  pure (k0_pay35 x w)
/-- Tell the three other devices that this one's landing slots are free, and wait to be told the same by all three. -/
def handshake (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32

/-- A step whose tile goes to another device: start the next load, compute the tile, store it, send it. -/
def remStep0 (k : ℕ) (hk : k < 2) (k' : ℕ) (hk' : k' < 2) (off : Fin 2 → ℕ) (ho : ∀ a, off a + S4096x512.size a ≤ S4096x8192.size a)
    (off' : Fin 2 → ℕ) (ho' : ∀ a, off' a + S4096x512.size a ≤ S4096x8192.size a) (n : Dev nD) (a b : ℕ) (ha : a < 3) (hb : b < 4) :
    Prog (TpuEff nD τ sig (Elt F) Λ₀ .tc) PUnit := do
  ldStart k' hk' off' ho'
  let p ← comp16 k hk off ho
  st16 k hk p
  send n a b ha hb k hk
/-- The same once both send slots have been used: the slot's previous send, to landing slot `(pa, pb)`, is waited for first. -/
def remStep (k : ℕ) (hk : k < 2) (k' : ℕ) (hk' : k' < 2) (off : Fin 2 → ℕ) (ho : ∀ a, off a + S4096x512.size a ≤ S4096x8192.size a)
    (off' : Fin 2 → ℕ) (ho' : ∀ a, off' a + S4096x512.size a ≤ S4096x8192.size a) (n : Dev nD) (a b : ℕ) (ha : a < 3) (hb : b < 4)
    (pa pb : ℕ) (hpa : pa < 3) (hpb : pb < 4) : Prog (TpuEff nD τ sig (Elt F) Λ₀ .tc) PUnit := do
  ldStart k' hk' off' ho'
  let p ← comp16 k hk off ho
  sendWait pa pb hpa hpb k hk
  st16 k hk p
  send n a b ha hb k hk
/-- A step whose tile stays here: compute it, store it, start copying it to the result. -/
def ownStep0 (k : ℕ) (hk : k < 2) (off : Fin 2 → ℕ) (ho : ∀ a, off a + S4096x512.size a ≤ S4096x8192.size a)
    (o : Fin 2 → ℕ) (hoo : ∀ a, o a + S1024x512.size a ≤ S4096x2048.size a) : Prog (TpuEff nD τ sig (Elt F) Λ₀ .tc) PUnit := do
  let p ← comp32 k hk off ho
  st32 k hk p
  loStart k hk o hoo
/-- The same once both slots have been used: the slot's previous copy, to `o'`, is waited for first. -/
def ownStep (k : ℕ) (hk : k < 2) (off : Fin 2 → ℕ) (ho : ∀ a, off a + S4096x512.size a ≤ S4096x8192.size a)
    (o : Fin 2 → ℕ) (hoo : ∀ a, o a + S1024x512.size a ≤ S4096x2048.size a) (o' : Fin 2 → ℕ) (hoo' : ∀ a, o' a + S1024x512.size a ≤ S4096x2048.size a) :
    Prog (TpuEff nD τ sig (Elt F) Λ₀ .tc) PUnit := do
  let p ← comp32 k hk off ho
  loWait k hk o' hoo'
  st32 k hk p
  loStart k hk o hoo
/-- Take the tile that landed in `(a, b)`: wait for it, widen it into conversion slot `k`, start copying it to the result. -/
def take0 (a b : ℕ) (ha : a < 3) (hb : b < 4) (k : ℕ) (hk : k < 2) (o : Fin 2 → ℕ) (hoo : ∀ a, o a + S1024x512.size a ≤ S4096x2048.size a) :
    Prog (TpuEff nD τ sig (Elt F) Λ₀ .tc) PUnit := do
  recvWait a b ha hb 0 (by decide)
  conv a b ha hb k hk
  cvStart k hk o hoo
/-- The same once both slots have been used: the slot's previous copy, to `o'`, is waited for first. -/
def take (a b : ℕ) (ha : a < 3) (hb : b < 4) (k : ℕ) (hk : k < 2) (o' : Fin 2 → ℕ) (hoo' : ∀ a, o' a + S1024x512.size a ≤ S4096x2048.size a)
    (o : Fin 2 → ℕ) (hoo : ∀ a, o a + S1024x512.size a ≤ S4096x2048.size a) : Prog (TpuEff nD τ sig (Elt F) Λ₀ .tc) PUnit := do
  recvWait a b ha hb 0 (by decide)
  cvWait k hk o' hoo'
  conv a b ha hb k hk
  cvStart k hk o hoo

/-- The body's steps on device `c` after the sends, in order. -/
def tailSteps (c : Dev nD) : Prog (TpuEff nD τ sig (Elt F) Λ₀ .tc) PUnit := do
  ldStart 1 (by decide) (k0_off1 c 0#32 512#32) (k0_off1_inb c 0 1)
  ownStep0 0 (by decide) (k0_off1 c 0#32 0#32) (k0_off1_inb c 0 0) (k0_off2 c) (k0_off2_inb c)
  take0 0 0 (by decide) (by decide) 0 (by decide) (k0_off3 c 1#32) (k0_off3_inb c 0)
  take0 2 0 (by decide) (by decide) 1 (by decide) (k0_off3 c 3#32) (k0_off3_inb c 2)
  ldStart 0 (by decide) (k0_off1 c 0#32 1024#32) (k0_off1_inb c 0 2)
  ownStep0 1 (by decide) (k0_off1 c 0#32 512#32) (k0_off1_inb c 0 1) (k0_off4 c) (k0_off4_inb c)
  take 1 0 (by decide) (by decide) 0 (by decide) (k0_off3 c 1#32) (k0_off3_inb c 0) (k0_off3 c 2#32) (k0_off3_inb c 1)
  take 0 1 (by decide) (by decide) 1 (by decide) (k0_off3 c 3#32) (k0_off3_inb c 2) (k0_off5 c 1#32) (k0_off5_inb c 0)
  ldStart 1 (by decide) (k0_off1 c 0#32 1536#32) (k0_off1_inb c 0 3)
  ownStep 0 (by decide) (k0_off1 c 0#32 1024#32) (k0_off1_inb c 0 2) (k0_off6 c) (k0_off6_inb c) (k0_off2 c) (k0_off2_inb c)
  take 2 1 (by decide) (by decide) 0 (by decide) (k0_off3 c 2#32) (k0_off3_inb c 1) (k0_off5 c 3#32) (k0_off5_inb c 2)
  take 1 1 (by decide) (by decide) 1 (by decide) (k0_off5 c 1#32) (k0_off5_inb c 0) (k0_off5 c 2#32) (k0_off5_inb c 1)
  ownStep 1 (by decide) (k0_off1 c 0#32 1536#32) (k0_off1_inb c 0 3) (k0_off7 c) (k0_off7_inb c) (k0_off4 c) (k0_off4_inb c)
  take 0 2 (by decide) (by decide) 0 (by decide) (k0_off5 c 3#32) (k0_off5_inb c 2) (k0_off8 c 1#32) (k0_off8_inb c 0)
  take 2 2 (by decide) (by decide) 1 (by decide) (k0_off5 c 2#32) (k0_off5_inb c 1) (k0_off8 c 3#32) (k0_off8_inb c 2)
  sendWait 2 3 (by decide) (by decide) 0 (by decide)
  sendWait 1 3 (by decide) (by decide) 1 (by decide)
  loWait 0 (by decide) (k0_off6 c) (k0_off6_inb c)
  loWait 1 (by decide) (k0_off7 c) (k0_off7_inb c)
  take 1 2 (by decide) (by decide) 0 (by decide) (k0_off8 c 1#32) (k0_off8_inb c 0) (k0_off8 c 2#32) (k0_off8_inb c 1)
  take 0 3 (by decide) (by decide) 1 (by decide) (k0_off8 c 3#32) (k0_off8_inb c 2) (k0_off9 c 1#32) (k0_off9_inb c 0)
  take 2 3 (by decide) (by decide) 0 (by decide) (k0_off8 c 2#32) (k0_off8_inb c 1) (k0_off9 c 3#32) (k0_off9_inb c 2)
  take 1 3 (by decide) (by decide) 1 (by decide) (k0_off9 c 1#32) (k0_off9_inb c 0) (k0_off9 c 2#32) (k0_off9_inb c 1)
  cvWait 0 (by decide) (k0_off9 c 3#32) (k0_off9_inb c 2)
  cvWait 1 (by decide) (k0_off9 c 2#32) (k0_off9_inb c 1)

/-- The body's steps on device `c`, in order. -/
def steps (c : Dev nD) : Prog (TpuEff nD τ sig (Elt F) Λ₀ .tc) PUnit := do
  handshake c
  ldStart 0 (by decide) (k0_off1 c 1#32 0#32) (k0_off1_inb c 1 0)
  remStep0 0 (by decide) 1 (by decide) (k0_off1 c 1#32 0#32) (k0_off1_inb c 1 0) (k0_off1 c 3#32 0#32) (k0_off1_inb c 3 0) ⟨k0_dev4 c, k0_dev4_lt c⟩ 0 0 (by decide) (by decide)
  remStep0 1 (by decide) 0 (by decide) (k0_off1 c 3#32 0#32) (k0_off1_inb c 3 0) (k0_off1 c 2#32 0#32) (k0_off1_inb c 2 0) ⟨k0_dev5 c, k0_dev5_lt c⟩ 2 0 (by decide) (by decide)
  remStep 0 (by decide) 1 (by decide) (k0_off1 c 2#32 0#32) (k0_off1_inb c 2 0) (k0_off1 c 1#32 512#32) (k0_off1_inb c 1 1) ⟨k0_dev6 c, k0_dev6_lt c⟩ 1 0 (by decide) (by decide) 0 0 (by decide) (by decide)
  remStep 1 (by decide) 0 (by decide) (k0_off1 c 1#32 512#32) (k0_off1_inb c 1 1) (k0_off1 c 3#32 512#32) (k0_off1_inb c 3 1) ⟨k0_dev7 c, k0_dev7_lt c⟩ 0 1 (by decide) (by decide) 2 0 (by decide) (by decide)
  remStep 0 (by decide) 1 (by decide) (k0_off1 c 3#32 512#32) (k0_off1_inb c 3 1) (k0_off1 c 2#32 512#32) (k0_off1_inb c 2 1) ⟨k0_dev8 c, k0_dev8_lt c⟩ 2 1 (by decide) (by decide) 1 0 (by decide) (by decide)
  remStep 1 (by decide) 0 (by decide) (k0_off1 c 2#32 512#32) (k0_off1_inb c 2 1) (k0_off1 c 1#32 1024#32) (k0_off1_inb c 1 2) ⟨k0_dev9 c, k0_dev9_lt c⟩ 1 1 (by decide) (by decide) 0 1 (by decide) (by decide)
  remStep 0 (by decide) 1 (by decide) (k0_off1 c 1#32 1024#32) (k0_off1_inb c 1 2) (k0_off1 c 3#32 1024#32) (k0_off1_inb c 3 2) ⟨k0_dev10 c, k0_dev10_lt c⟩ 0 2 (by decide) (by decide) 2 1 (by decide) (by decide)
  remStep 1 (by decide) 0 (by decide) (k0_off1 c 3#32 1024#32) (k0_off1_inb c 3 2) (k0_off1 c 2#32 1024#32) (k0_off1_inb c 2 2) ⟨k0_dev11 c, k0_dev11_lt c⟩ 2 2 (by decide) (by decide) 1 1 (by decide) (by decide)
  remStep 0 (by decide) 1 (by decide) (k0_off1 c 2#32 1024#32) (k0_off1_inb c 2 2) (k0_off1 c 1#32 1536#32) (k0_off1_inb c 1 3) ⟨k0_dev12 c, k0_dev12_lt c⟩ 1 2 (by decide) (by decide) 0 2 (by decide) (by decide)
  remStep 1 (by decide) 0 (by decide) (k0_off1 c 1#32 1536#32) (k0_off1_inb c 1 3) (k0_off1 c 3#32 1536#32) (k0_off1_inb c 3 3) ⟨k0_dev13 c, k0_dev13_lt c⟩ 0 3 (by decide) (by decide) 2 2 (by decide) (by decide)
  remStep 0 (by decide) 1 (by decide) (k0_off1 c 3#32 1536#32) (k0_off1_inb c 3 3) (k0_off1 c 2#32 1536#32) (k0_off1_inb c 2 3) ⟨k0_dev14 c, k0_dev14_lt c⟩ 2 3 (by decide) (by decide) 1 2 (by decide) (by decide)
  remStep 1 (by decide) 0 (by decide) (k0_off1 c 2#32 1536#32) (k0_off1_inb c 2 3) (k0_off1 c 0#32 0#32) (k0_off1_inb c 0 0) ⟨k0_dev15 c, k0_dev15_lt c⟩ 1 3 (by decide) (by decide) 0 3 (by decide) (by decide)
  tailSteps c

set_option maxRecDepth 65536 in
set_option maxHeartbeats 4000000 in
/-- The printed body is its steps. -/
theorem body_eq :
    cc0_body (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
      = (Prog.lift .deviceId : Prog (TpuEff nD τ sig (Elt F) Λ₀ .tc) (Dev nD)) >>= steps := by
  simp only [cc0_body_eq_skeleton, cc0_body_skel, steps, tailSteps, handshake, remStep0, remStep, ownStep0, ownStep, take0, take, comp16, comp32, ldStart, ldWait, ldX, ldW, st16, st32, send, sendWait, loStart, loWait, recvWait,
    conv, cvStart, cvWait, semSignalWord, semWaitWord, Prog.lift, Prog.bind_op, Prog.bind_ret, Prog.pure_eq_ret, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel]
  rfl

end Cert.K

end
-- ==== Proof.Protocol.lean ====
/-
# The protocol between the four devices

Every device computes sixteen tiles: twelve for the other three devices, four of its own columns. Tile `(a, b)` of device
`c` goes to device `dst c a` (the device `a + 1` places on) and lands there in slot `(a, b)` of its landing buffer; the
device it came from is `src`. The cells:

* the barrier cell of `c`: three duties of one unit. Duty `a` is paid by `dst c a`, and hands over that device's landing
  slots `(a, 0) … (a, 3)`, at any contents: the slots `c`'s tiles land in. `c` waits for all three before its first send;
* send cell `(a, b)` of `c`: one duty of a tile's credit, paid when `c`'s tile `(a, b)` has been read out of its staging
  slot; it gives the staging slot back to `c`, which waits for it before writing the slot again;
* receive cell `(a, b)` of `c`: one duty of a tile's credit, paid by `src c a` through its send; it hands `c` landing slot
  `(a, b)` holding the tile that device computed for `c`'s columns.

A device owes the twelve receive cells it sends to and the three barrier cells it signals. The barrier cells are at level
1, the receive cells at level 2, all other cells at level 0; no device owes anything when it waits for a receive cell.
-/
module

public import proofs.«01_k».proof.Proof.BodyEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells; the protocol's cells and the counters of the local copies -/

abbrev UB : Type := URounds (GSem nD τ sig) (Fin 3)
abbrev UU : Type := UR sig nD τ × (UB × Counters)

local notation "𝕄" => MT nD τ sig Unit (Elt F) ℕ UU ℕ

/-- The pipeline's copy of the algebra, the protocol's, the counters'. -/
abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who sends to whom -/

set_option backward.proofsInPublic true in
/-- The device `a + 1` places on, where tiles `(a, ·)` go; and the device they come from. -/
def dst (c : Dev nD) (a : Fin 3) : Dev nD := ⟨(c.val + (a.val + 1)) % 4, Nat.mod_lt _ (by decide)⟩
set_option backward.proofsInPublic true in
def src (c : Dev nD) (a : Fin 3) : Dev nD := ⟨(c.val + (3 - a.val)) % 4, Nat.mod_lt _ (by decide)⟩

theorem src_dst (c : Dev nD) (a : Fin 3) : src (dst c a) a = c := by revert c a; decide
theorem dst_src (c : Dev nD) (a : Fin 3) : dst (src c a) a = c := by revert c a; decide
/-- For each `a`, sending is a permutation of the devices. -/
def turn (a : Fin 3) : Dev nD ≃ Dev nD := ⟨fun c => dst c a, fun c => src c a, fun c => src_dst c a, fun c => dst_src c a⟩

/-! ## The cells -/

/-- The protocol's cells of one device: its barrier, its send cells (`false`), its receive cells (`true`). -/
abbrev CI : Type := Option (Bool × Fin 3 × Fin 4)

def csem : CI → SemLoc sig
  | none => .reg barS
  | some (false, a, b) => .dma (snS a.1 b.1 a.2 b.2)
  | some (true, a, b) => .dma (rcS a.1 b.1 a.2 b.2)

theorem csem_inj : Function.Injective csem := by unfold Function.Injective; decide +kernel

/-- Which of the protocol's cells a semaphore is, if any. -/
def cls : SemLoc sig → Option CI := Function.partialInv csem
theorem cls_csem (i : CI) : cls (csem i) = some i := Function.partialInv_left csem_inj i
theorem cls_none {sm : SemLoc sig} (h : ∀ i, csem i ≠ sm) : cls sm = none := by
  rw [Option.eq_none_iff_forall_not_mem]
  intro i hi
  exact h i ((Function.partialInv_of_injective csem_inj i sm).mp hi)

abbrev kcell (ck : Dev nD × CI) : GSem nD τ sig := ((ck.1 : Thread nD τ), csem ck.2)
abbrev barCell (c : Dev nD) : GSem nD τ sig := kcell (c, none)
abbrev sendCell (c : Dev nD) (a : Fin 3) (b : Fin 4) : GSem nD τ sig := kcell (c, some (false, a, b))
abbrev recvCell (c : Dev nD) (a : Fin 3) (b : Fin 4) : GSem nD τ sig := kcell (c, some (true, a, b))

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]
theorem kcell_eq_iff {x y : Dev nD × CI} : Iff (kcell x = kcell y) (x = y) := kcell_injective.eq_iff

/-- The credit of one tile. -/
abbrev N : ℕ := (rv 0 0 (by decide) (by decide)).view.dmaCredit
theorem N_pos : 0 < N := View.dmaCredit_pos _ (by decide)

/-! ## Contents -/

/-- The tanh form of gelu of the product of a row block and a column tile, in the kernel's own order of operations. -/
def tile32 (x : FVec F S1024x4096 .f32) (w : FVec F S4096x512 .f32) : FVec F S1024x512 .f32 :=
  have y : FVec F S1024x512 .f32 := matmul dot_S1024x4096_S4096x512_S1024x512_1_0_0_1_n_n none
    (shapeCast S1024x4096 x shapeCasts_S1024x4096_S1024x4096) w (constant S1024x512 .f32 0x00000000#32)
  mulf (mulf (broadcast S1024x512 (Scalar.ofBits .f32 0x3F000000#32)) y)
    (addf (broadcast S1024x512 (Scalar.ofBits .f32 0x3F800000#32))
      (tanh (mulf (broadcast S1024x512 (Scalar.ofBits .f32 0x3F4C422A#32))
        (addf y (mulf (mulf (mulf (broadcast S1024x512 (Scalar.ofBits .f32 0x3D372713#32)) y) y) y)))))
/-- The tile as it is sent: narrowed. -/
def tile16 (x : FVec F S1024x4096 .f32) (w : FVec F S4096x512 .f32) : FVec F S1024x512 .bf16 := truncf .bf16 (tile32 x w) bitsLt_bf16_f32

theorem pay16_eq (x : Vec F S1024x4096 .f32) (w : Vec F S1x4096x512 .f32) :
    k0_pay5 x w = shapeCast S1x1024x512 (tile16 x (shapeCast S4096x512 w shapeCasts_S1x4096x512_S4096x512)) shapeCasts_S1024x512_S1x1024x512 := rfl
theorem pay32_eq (x : Vec F S1024x4096 .f32) (w : Vec F S1x4096x512 .f32) :
    k0_pay35 x w = shapeCast S1x1024x512 (tile32 x (shapeCast S4096x512 w shapeCasts_S1x4096x512_S4096x512)) shapeCasts_S1024x512_S1x1024x512 := rfl

/-- Device `c`'s block of `x`, as staged; its weight tile at an offset. -/
def xv (c : Dev nD) : (cc0_stg0_0 : Ref sig .tc).ty.Contents (Elt F) :=
  (win0_0.blk (0 : Fin 1)).view.read (Elt F) (m ((c : Thread nD τ).loc main_arg0))
def wv (c : Dev nD) (off : Fin 2 → ℕ) (ho : ∀ a, off a + S4096x512.size a ≤ S4096x8192.size a) : FVec F S4096x512 .f32 :=
  (wTile off ho).view.read (Elt F) (m ((c : Thread nD τ).loc main_arg1))

/-- The tile device `s` computes for landing slot `(a, b)` of device `dst s a`. -/
def sentTile (s : Dev nD) (a : Fin 3) (b : Fin 4) : FVec F S1024x512 .bf16 :=
  tile16 (xv m s) (wv m s (k0_off1 s (BitVec.ofNat 32 (a.1 + 1)) (BitVec.ofNat 32 (512 * b.1)))
    (k0_off1_inb s ⟨a.1 + 1, by omega⟩ b))

/-! ## The schedule -/

/-- A memref of device `d`, owned whole at some contents. -/
def anyOf (d : Dev nD) {sp : Space} {sh : Shape} {e : EltTy} (M : Memref sig .tc sp sh e) : sProp 𝕄 :=
  iprop(∃ X : sh.Idx → Elt F e, ownsTc d M fullShare X)
omit [FloatOps F] in
instance anyOf_storable (d : Dev nD) {sp : Space} {sh : Shape} {e : EltTy} (M : Memref sig .tc sp sh e) :
    BI.Storable (upEmb : UEmb _ 𝕄) (anyOf (F := F) d M) := by unfold anyOf; infer_instance

/-- Landing slot `(a, b)`. -/
abbrev rvF (a : Fin 3) (b : Fin 4) : Memref sig .tc .vmem S1024x512 .bf16 := rv a.1 b.1 a.2 b.2

/-- The staging slot tile `(a, b)` is sent out of: tiles go in the order `b`, then `a = 0, 2, 1`, slots alternate. -/
def slotOf (a : Fin 3) (b : Fin 4) : ℕ := (3 * b.1 + (if a = 0 then 0 else if a = 2 then 1 else 2)) % 2
theorem slotOf_lt (a : Fin 3) (b : Fin 4) : slotOf a b < 2 := Nat.mod_lt _ (by decide)

def barPay (c : Dev nD) (a : Fin 3) : sProp 𝕄 := bigSep Finset.univ fun b : Fin 4 => anyOf (F := F) (dst c a) (rvF a b)
def sendPay (c : Dev nD) (a : Fin 3) (b : Fin 4) : sProp 𝕄 := anyOf (F := F) c (s16 (slotOf a b) (slotOf_lt a b))
def recvPay (c : Dev nD) (a : Fin 3) (b : Fin 4) : sProp 𝕄 := ownsTc c (rvF a b) fullShare (sentTile m (src c a) a b)

omit [FloatOps F] in
instance barPay_storable (c : Dev nD) (a : Fin 3) : BI.Storable (upEmb : UEmb _ 𝕄) (barPay (F := F) c a) := by unfold barPay; infer_instance
omit [FloatOps F] in
instance sendPay_storable (c : Dev nD) (a : Fin 3) (b : Fin 4) : BI.Storable (upEmb : UEmb _ 𝕄) (sendPay (F := F) c a b) := by unfold sendPay; infer_instance
instance recvPay_storable (c : Dev nD) (a : Fin 3) (b : Fin 4) : BI.Storable (upEmb : UEmb _ 𝕄) (recvPay m c a b) := by unfold recvPay; infer_instance

def payOf (c : Dev nD) (d : Fin 3) : Option CI → sProp 𝕄
  | none => iprop(emp)
  | some none => barPay c d
  | some (some (false, a, b)) => sendPay c a b
  | some (some (true, a, b)) => recvPay m c a b
instance payOf_storable (c : Dev nD) (d : Fin 3) (k : Option CI) : BI.Storable (upEmb : UEmb _ 𝕄) (payOf m c d k) :=
  match k with
  | none => by unfold payOf; infer_instance
  | some none => by unfold payOf; infer_instance
  | some (some (false, a, b)) => by unfold payOf; infer_instance
  | some (some (true, a, b)) => by unfold payOf; infer_instance

/-- The duties of a cell's one round, by what the cell is; the amount of each. -/
def dutiesOf : Option CI → Finset (Fin 3)
  | none => ∅
  | some none => Finset.univ
  | some (some _) => {0}
def amountOf : Option CI → ℕ
  | some none => 1
  | _ => N

def Rd : Rounds.Schedule (GSem nD τ sig) (Fin 3) 𝕄 where
  duties g r := if r = 0 ∧ g.1.2 = .tc then dutiesOf (cls g.2) else ∅
  unitless _ := False
  amount g _ _ := amountOf (cls g.2)
  payload g _ d := payOf m g.1.1 d (cls g.2)
  amount_pos g _ _ _ := by
    show 0 < amountOf (cls g.2)
    unfold amountOf; split
    · exact Nat.one_pos
    · exact N_pos

instance Rd_payload_storable (g : GSem nD τ sig) (r : ℕ) (d : Fin 3) : BI.Storable (upEmb : UEmb _ 𝕄) ((Rd (F := F) m).payload g r d) :=
  payOf_storable m g.1.1 d (cls g.2)

section Sched
variable (c : Dev nD) (a : Fin 3) (b : Fin 4)

theorem duties_cell (k : CI) : (Rd (F := F) m).duties (kcell (c, k)) 0 = dutiesOf (some k) := by
  show (if (0 = 0 ∧ ((c : Thread nD τ)).2 = .tc) then dutiesOf (cls (csem k)) else ∅) = _
  rw [if_pos ⟨rfl, rfl⟩, cls_csem]
theorem duties_later (g : GSem nD τ sig) : ∀ r, 1 ≤ r → (Rd (F := F) m).duties g r = ∅ :=
  fun r hr => if_neg fun h => by omega
theorem amount_cell (k : CI) (d : Fin 3) : (Rd (F := F) m).amount (kcell (c, k)) 0 d = amountOf (some k) := by
  show amountOf (cls (csem k)) = _; rw [cls_csem]
theorem payload_cell (k : CI) (d : Fin 3) : (Rd (F := F) m).payload (kcell (c, k)) 0 d = payOf m c d (some k) := by
  show payOf m c d (cls (csem k)) = _; rw [cls_csem]

theorem expect_bar : (Rd (F := F) m).expect (barCell c) 0 = 3 := by
  unfold Schedule.expect Schedule.amountOf
  rw [duties_cell, Finset.sum_congr rfl fun d _ => amount_cell m c none d]; rfl
theorem expect_xfer (x : Bool × Fin 3 × Fin 4) : (Rd (F := F) m).expect (kcell (c, some x)) 0 = N := by
  unfold Schedule.expect Schedule.amountOf
  rw [duties_cell, Finset.sum_congr rfl fun d _ => amount_cell m c (some x) d]
  exact Finset.sum_singleton _ _

theorem rest_bar : bigSep ((Rd (F := F) m).duties (barCell c) 0 \ ∅) (fun d => (Rd (F := F) m).payload (barCell c) 0 d)
    = bigSep Finset.univ fun d : Fin 3 => barPay (F := F) c d := by
  rw [Finset.sdiff_empty, duties_cell]
  exact bigSep_congr fun d _ => payload_cell m c none d
theorem rest_send : bigSep ((Rd (F := F) m).duties (sendCell c a b) 0 \ ∅) (fun d => (Rd (F := F) m).payload (sendCell c a b) 0 d) = sendPay (F := F) c a b := by
  rw [Finset.sdiff_empty, duties_cell]
  exact bigSep_singleton.trans (payload_cell m c _ 0)
theorem rest_recv : bigSep ((Rd (F := F) m).duties (recvCell c a b) 0 \ ∅) (fun d => (Rd (F := F) m).payload (recvCell c a b) 0 d) = recvPay m c a b := by
  rw [Finset.sdiff_empty, duties_cell]
  exact bigSep_singleton.trans (payload_cell m c _ 0)

end Sched

/-! ## What each device owes; the levels -/

/-- The credits device `c` owes for the sends of a list still to come. -/
def owedL (c : Dev nD) : List (Fin 3 × Fin 4) → CellTallies nD τ sig Unit
  | [] => 0
  | x :: l => owedL c l + tallyAt (recvCell (dst c x.1) x.1 x.2) () N

/-- The order of the sends. -/
abbrev sendOrder : List (Fin 3 × Fin 4) :=
  [(0, 0), (2, 0), (1, 0), (0, 1), (2, 1), (1, 1), (0, 2), (2, 2), (1, 2), (0, 3), (2, 3), (1, 3)]

def O₀ (c : Dev nD) : CellTallies nD τ sig Unit :=
  ((owedL c sendOrder + tallyAt (barCell (src c 0)) () 1) + tallyAt (barCell (src c 1)) () 1) + tallyAt (barCell (src c 2)) () 1

def L (g : GSem nD τ sig) : Finset Unit := if g.1.2 = .tc then {()} else ∅
def lvOf : Option CI → ℕ
  | some none => 1
  | some (some (true, _, _)) => 2
  | _ => 0
def lv (g : GSem nD τ sig) (_ : Unit) : ℕ := lvOf (cls g.2)

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_cell (c : Dev nD) (k : CI) (u : Unit) : lv (kcell (c, k)) u = lvOf (some k) := by
  show lvOf (cls (csem k)) = _; rw [cls_csem]

theorem owedL_pos {c : Dev nD} {l : List (Fin 3 × Fin 4)} {g : GSem nD τ sig} {u : Unit} (h : 0 < owedL c l g u) :
    ∃ d a b, g = recvCell d a b := by
  induction l with
  | nil => exact absurd h (Nat.lt_irrefl 0)
  | cons x l ih =>
    unfold owedL at h
    rw [Pi.add_apply, Finsupp.add_apply, tallyAt_apply] at h
    by_cases hg : g = recvCell (dst c x.1) x.1 x.2
    · exact ⟨_, _, _, hg⟩
    · rw [if_neg fun h' => hg h'.1, Nat.add_zero] at h; exact ih h

theorem O₀_pos {c : Dev nD} {g : GSem nD τ sig} {u : Unit} (h : 0 < O₀ c g u) :
    (∃ d a b, g = recvCell d a b) ∨ ∃ d, g = barCell d := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  exact hn.1 (owedL_pos (show 0 < owedL c sendOrder g u from h))

/-- A wait at a cell of level at most `n`, below the receive cells, is allowed while sends are owed. -/
theorem mayWait_owed (c : Dev nD) (sm : SemLoc sig) (l : List (Fin 3 × Fin 4)) (h : lvOf (cls sm) < 2) :
    (levAts L lv : sProp 𝕄) ⊢ MayWait (c : Thread nD τ) sm () (owedL c l) :=
  MayOwe.of_cut (L := L) (lev := lv) 1 (fun p hp => by rw [Finset.mem_singleton.mp hp]; exact mem_L c sm _)
    (fun g u hg => by obtain ⟨d, a, b, rfl⟩ := owedL_pos hg; exact mem_L _ _ _)
    (fun p hp => by rw [Finset.mem_singleton.mp hp]; exact Nat.le_of_lt_succ h)
    (fun g u hg => by obtain ⟨d, a, b, rfl⟩ := owedL_pos hg; rw [lv_cell]; exact Nat.lt_succ_self 1)

/-- The pipeline's own waits, at cells of level 0, are allowed from the start. -/
theorem mayWait_start (c : Dev nD) (sm : SemLoc sig) (O : CellTallies nD τ sig Unit) (hO : O = O₀ c ∨ O = 0) (h : lvOf (cls sm) = 0) :
    (levAts L lv : sProp 𝕄) ⊢ MayWait (c : Thread nD τ) sm () O := by
  rcases hO with rfl | rfl
  · exact MayOwe.of_cut (L := L) (lev := lv) 0 (fun p hp => by rw [Finset.mem_singleton.mp hp]; exact mem_L c sm _)
      (fun g u hg => by rcases O₀_pos hg with ⟨d, a, b, rfl⟩ | ⟨d, rfl⟩ <;> exact mem_L _ _ _)
      (fun p hp => by rw [Finset.mem_singleton.mp hp]; exact le_of_eq h)
      (fun g u hg => by
        rcases O₀_pos hg with ⟨d, a, b, rfl⟩ | ⟨d, rfl⟩ <;> rw [lv_cell]
        · exact Nat.lt_succ_of_lt Nat.zero_lt_one
        · exact Nat.zero_lt_one)
  · rw [MayWait_zero]; iintro -; iempintro

end Cert.K

end
-- ==== Proof.Rules.lean ====
/-
# One rule per step

For each of the kernel's steps, what it takes and what it leaves, as an entailment `P ⊢ WP c step R`; `use` applies such
a rule to the first step of a program.
-/
module

public import proofs.«01_k».proof.Proof.Protocol
public import Idealize.ShloMosaic.Lib.Pipeline.Value

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

theorem use {c : Dev nD} {α β : Type} {P : sProp 𝕄} {e : Prog (TpuEff nD τ sig (Elt F) Λ₀ .tc) α} {R : α → sProp 𝕄} (h : P ⊢ WP c e R)
    {k : α → Prog (TpuEff nD τ sig (Elt F) Λ₀ .tc) β} {Q : β → sProp 𝕄} :
    P ⊢ iprop((∀ v, R v -∗ WP c (k v) Q) -∗ WP c (e >>= k) Q) := by
  have e1 : WP c (e >>= k) Q = WP c e (fun v => WP c (k v) Q) := wp_bind frame _ _ e k Q
  rw [e1]
  exact h.trans (wp_wand frame _ _)

/-- The same for a step whose result is nothing. -/
theorem use' {c : Dev nD} {β : Type} {P R : sProp 𝕄} {e : Prog (TpuEff nD τ sig (Elt F) Λ₀ .tc) PUnit} (h : P ⊢ WP c e (fun _ => R))
    {k : PUnit → Prog (TpuEff nD τ sig (Elt F) Λ₀ .tc) β} {Q : β → sProp 𝕄} :
    P ⊢ iprop((R -∗ WP c (k ⟨⟩) Q) -∗ WP c (e >>= k) Q) := by
  iintro HP Hk
  iapply (use h) $$ HP
  iintro %v HR
  iapply Hk; iexact HR

/-! ## Loads and stores of a slot -/

section Slot
variable {sp : CoreSpace} {sh s' : Shape} {e : EltTy} (c : Dev nD) (M : Memref sig .tc sp sh e) (r : Rect sh) (hr : ∀ a, r.stride a = 1)
  (hq : r.shape.Squeezes s') (hc : r.shape.ShapeCasts s') (hc' : s'.ShapeCasts r.shape)

theorem slot_set : ((M.slice r hr).squeeze s' hq).view.set = (M.access r).set :=
  View.set_reshape _ _

/-- A load of a slot reads its contents, reshaped. -/
theorem load_slot {hl : M.view.LoadsAt r.toLoadRect} {q : PosShare TreeShare} (X : s'.Idx → Elt F e) :
    (ownsTc c ((M.slice r hr).squeeze s' hq) q X : sProp 𝕄)
      ⊢ WP c (Prog.lift (.load M r.toLoadRect hl)) fun v => iprop(⌜shapeCast s' v hc = X⌝ ∗ ownsTc c ((M.slice r hr).squeeze s' hq) q X) := by
  unfold ownsTc owns
  iintro ⟨%f, %hf, H⟩
  rw [slot_set]
  iapply (wp_load_rect 𝒱₀ (c : Thread nD τ) none Set.univ (m := M) (r := r) (Finset.Subset.refl _)) $$ H
  iintro H
  rw [wp_ret]; imodintro
  isplitr
  · ipureintro; rw [← hf]; rfl
  · iexists f; isplitr; · ipureintro; exact hf
    iexact H

include hc in
/-- A store over a whole slot leaves what was stored, reshaped. -/
theorem store_slot {hx : (M.access r).Stores Finset.univ} {hm : Finset.univ = Finset.univ ∨ ∀ a, r.stride a = 1} (X : s'.Idx → Elt F e) :
    (anyOf c ((M.slice r hr).squeeze s' hq) : sProp 𝕄)
      ⊢ WP c (Prog.lift (.store M r (shapeCast r.shape X hc') Finset.univ hx hm)) fun _ => ownsTc c ((M.slice r hr).squeeze s' hq) fullShare X := by
  unfold anyOf ownsTc owns
  iintro ⟨%Y, %f, -, H⟩
  rw [slot_set]
  iapply (wp_store 𝒱₀ (c : Thread nD τ) none Set.univ (m := M) (r := r) (Mk := Finset.univ) (S := (M.access r).set) (Finset.Subset.refl _)) $$ H
  iintro H
  rw [wp_ret]; imodintro
  iexists _
  isplitr; swap; · iexact H
  ipureintro
  show shapeCast s' ((M.access r).read (Elt F) ((M.access r).write (Elt F) f (shapeCast r.shape X hc') Finset.univ)) hc = X
  rw [View.read_write_univ, shapeCast_shapeCast]

include hc in
/-- A load whose result is dropped. -/
theorem load_any {hl : M.view.LoadsAt r.toLoadRect} :
    (anyOf c ((M.slice r hr).squeeze s' hq) : sProp 𝕄)
      ⊢ WP c (Prog.lift (.load M r.toLoadRect hl)) fun _ => anyOf c ((M.slice r hr).squeeze s' hq) := by
  unfold anyOf
  iintro ⟨%X, H⟩
  ihave H := (load_slot c M r hr hq hc (hl := hl) X) $$ H
  iapply (wp_wand frame _ _) $$ H
  iintro %v ⟨-, H⟩
  iexists X; iexact H

end Slot

/-! ## Local copies -/

/-- A copy of a whole memref onto another, the source at a share. -/
theorem copy_start {sp sp' : Space} {s : Shape} {e : EltTy} (c : Dev nD) (S : Memref sig .tc sp s e) (T : Memref sig .tc sp' s e) (q : DmaSem sig)
    {hs : S.view.WordExact} {ht : T.view.WordExact} {hsem : DmaTarget.Typed (p := .tc) sp (SemLoc.dma q) (DmaTarget.here (nD := nD) (τ := τ) (p := .tc) T)}
    (hN0 : 0 < T.view.dmaCredit) (sh : PosShare TreeShare) (X : s.Idx → Elt F e) :
    iprop(ownsTc c S sh X ∗ anyOf c T ∗ semVal (((c : Thread nD τ), .dma q) : GSem nD τ sig) 0)
      ⊢ (WP c (Prog.lift (.enqueueDma S (.here T) (.dma q) hs ht hsem)) fun _ =>
          Flight EC (c : Thread nD τ) (.dma q) () T.view.dmaCredit iprop(ownsTc c T fullShare X ∗ ownsTc c S sh X) : sProp 𝕄) := by
  have hmono (fs : Buf (Elt F) (S.view.loc (c : Thread nD τ))) (hf : S.view.read (Elt F) fs = X) (fd : Buf (Elt F) (T.view.loc (c : Thread nD τ))) :
      iprop((T.view.loc (c : Thread nD τ) ↦[T.view.set]{fullShare} T.view.write (Elt F) fd (S.view.read (Elt F) fs) Finset.univ)
        ∗ (S.view.loc (c : Thread nD τ) ↦[S.view.set]{sh} fs)) ⊢ (iprop(ownsTc c T fullShare X ∗ ownsTc c S sh X) : sProp 𝕄) := by
    unfold ownsTc owns
    iintro ⟨Hd, Hs⟩
    isplitl [Hd]
    · iexists _; isplitr; swap; · iexact Hd
      ipureintro; rw [View.read_write_univ]; exact hf
    · iexists fs; isplitr; · ipureintro; exact hf
      iexact Hs
  unfold anyOf
  show iprop(owns (c : Thread nD τ) S sh X ∗ (∃ Y, owns (c : Thread nD τ) T fullShare Y) ∗ _) ⊢ _
  conv => lhs; unfold owns
  iintro ⟨⟨%fs, %hf, Hs⟩, ⟨%Y, %fd, -, Hd⟩, Hv⟩
  iapply (wp_dmaLocal EC 𝒱₀ (c : Thread nD τ) none () T.view.dmaCredit rfl hN0 (Finset.Subset.refl _)) $$ [Hs Hd Hv]
  · isplitl [Hs]; · iexact Hs
    isplitl [Hd] <;> iassumption
  iintro HF
  rw [wp_ret]; imodintro
  iapply (Flight_mono EC (c : Thread nD τ) (hmono fs hf fd)) $$ HF

/-- What device `c` owes, with whatever waits are recorded. -/
def ow (c : Dev nD) (O : CellTallies nD τ sig Unit) : sProp 𝕄 := iprop(∃ W, owes (c : Thread nD τ) O W)

/-- The wait for it, at a cell of level 0. -/
theorem copy_wait {sp sp' : Space} {s : Shape} {e : EltTy} (c : Dev nD) (S : Memref sig .tc sp s e) (T : Memref sig .tc sp' s e) (q : DmaSem sig)
    {hs : S.view.WordExact} {ht : T.view.WordExact} (hq : lvOf (cls (.dma q)) < 2) (D : sProp 𝕄) (l : List (Fin 3 × Fin 4)) :
    iprop(Flight EC (c : Thread nD τ) (.dma q) () T.view.dmaCredit D ∗ ow c (owedL c l) ∗ levAts L lv)
      ⊢ (WP c (Prog.lift (.waitDma2 q S T hs ht)) fun _ => iprop(D ∗ semVal (((c : Thread nD τ), .dma q) : GSem nD τ sig) 0 ∗ ow c (owedL c l)) : sProp 𝕄) := by
  unfold ow
  iintro ⟨HF, ⟨%W, HO⟩, #Hlev⟩
  iapply (wp_waitLocalO EC 𝒱₀ (c : Thread nD τ) none () rfl) $$ [HF HO]
  · isplitl [HF]; · iexact HF
    isplitl [HO]; · iexact HO
    iapply (mayWait_owed c (.dma q) l hq); iexact Hlev
  iintro ⟨HD, Hv, HO⟩
  rw [wp_ret]; imodintro
  isplitl [HD]; · iexact HD
  isplitl [Hv]; · iexact Hv
  iexists _; iexact HO

end Cert.K

end
-- ==== Proof.StepRules.lean ====
/-
# The rules of the kernel's own steps

What device `c` holds at each point is a conjunction of a few kinds of items: a free or a loading weight slot (`ldFree`,
`ldFl`), a free staging slot or one being sent (`sent`), a free result staging slot or one being copied (`loFl`, `cvFl`),
the tokens of a send still to come (`sendTok`) and of a tile still to be received (`recvTok`). Each composite step of the
body has one rule that turns some of these into others.
-/
module

public import proofs.«01_k».proof.Proof.Rules

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The items -/

/-- The invariants of all cells, and that every cell's round 0 is reached. -/
def records : sProp 𝕄 :=
  iprop((bigSep Finset.univ fun ck : Dev nD × CI => cellInv ER (Rd m) (K ck) (kcell ck))
    ∗ bigSep Finset.univ fun ck : Dev nD × CI => reached ER (kcell ck) 0)
instance records_persistent : BI.Persistent (records m K) := by unfold records; infer_instance
theorem inv_at (ck : Dev nD × CI) : records m K ⊢ cellInv ER (Rd m) (K ck) (kcell ck) := by
  have h : (bigSep Finset.univ fun ck : Dev nD × CI => (cellInv ER (Rd m) (K ck) (kcell ck) : sProp 𝕄)) ⊢ cellInv ER (Rd m) (K ck) (kcell ck) :=
    bigSep_elim (Finset.mem_univ ck)
  unfold records; iintro ⟨H, -⟩
  iapply h; iexact H
theorem reached_at (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩
  iapply h; iexact H

/-- What every step may use: the records and the levels. -/
def ctx : sProp 𝕄 := iprop(records m K ∗ levAts L lv)
instance ctx_persistent : BI.Persistent (ctx m K) := by unfold ctx; infer_instance
theorem ctx_rec : ctx m K ⊢ records m K := by unfold ctx; iintro ⟨H, -⟩; iexact H
theorem ctx_lev : ctx m K ⊢ levAts L lv := by unfold ctx; iintro ⟨-, H⟩; iexact H

/-- A counter at zero. -/
abbrev zero (sm : SemLoc sig) : sProp 𝕄 := semVal (((c : Thread nD τ), sm) : GSem nD τ sig) 0

/-- The half of the weight array that slot `k`'s loads read. -/
def wShare (k : ℕ) : PosShare TreeShare := if k = 0 then fullShare.left else fullShare.right
def wHalf (k : ℕ) : sProp 𝕄 := ((c : Thread nD τ).loc main_arg1) ↦{wShare k} m ((c : Thread nD τ).loc main_arg1)

/-- The block of `x`, staged. -/
def xPts : sProp 𝕄 := ((c : Thread nD τ).loc cc0_stg0_0) ↦{fullShare} xv m c

section Load
variable (k : ℕ) (hk : k < 2) (off : Fin 2 → ℕ) (ho : ∀ a, off a + S4096x512.size a ≤ S4096x8192.size a)

def ldFree : sProp 𝕄 := iprop(wHalf m c k ∗ anyOf (F := F) c (wSlot k hk) ∗ zero c (.dma (ldS k hk)))
def ldFl : sProp 𝕄 :=
  iprop(Flight EC (c : Thread nD τ) (.dma (ldS k hk)) () (wSlot k hk).view.dmaCredit
      iprop(ownsTc c (wSlot k hk) fullShare (wv m c off ho) ∗ ownsTc c (wTile off ho) (wShare k) (wv m c off ho))
    ∗ (((c : Thread nD τ).loc main_arg1) ↦[Finset.univ \ (wTile off ho).view.set]{wShare k} m ((c : Thread nD τ).loc main_arg1)))

theorem wTile_split : wHalf m c k ⊢ iprop(ownsTc c (wTile off ho) (wShare k) (wv m c off ho)
    ∗ (((c : Thread nD τ).loc main_arg1) ↦[Finset.univ \ (wTile off ho).view.set]{wShare k} m ((c : Thread nD τ).loc main_arg1))) := by
  unfold wHalf
  iintro H
  ihave H := (pointsTo_split_subset (Finset.subset_univ (wTile off ho).view.set)).1 $$ H
  icases H with ⟨H1, H2⟩
  isplitl [H1]; · iapply (owns_intro (c : Thread nD τ) (wTile off ho) (wShare k)); iexact H1
  iexact H2

theorem wTile_join : iprop(ownsTc c (wTile off ho) (wShare k) (wv m c off ho)
    ∗ (((c : Thread nD τ).loc main_arg1) ↦[Finset.univ \ (wTile off ho).view.set]{wShare k} m ((c : Thread nD τ).loc main_arg1))) ⊢ wHalf m c k := by
  have h : (ownsTc c (wTile off ho) (wShare k) (wv m c off ho) : sProp 𝕄)
      ⊢ (((c : Thread nD τ).loc main_arg1) ↦[(wTile off ho).view.set]{wShare k} m ((c : Thread nD τ).loc main_arg1)) :=
    Entails.of_eq (owns_slice_read (c : Thread nD τ) wM (wShare k) (Rect.unit (s := S4096x8192) off S4096x512.size ho) (fun _ => rfl)
      (m ((c : Thread nD τ).loc main_arg1)))
  unfold wHalf
  iintro ⟨H1, H2⟩
  ihave H1 := h $$ H1
  iapply (pointsTo_split_subset (Finset.subset_univ (wTile off ho).view.set)).2
  isplitl [H1] <;> iassumption

theorem ldStart_rule : ldFree m c k hk ⊢ WP c (ldStart k hk off ho) fun _ => ldFl m c k hk off ho := by
  unfold ldFree
  iintro ⟨Hw, Hs, Hv⟩
  ihave Hw := (wTile_split m c k off ho) $$ Hw
  icases Hw with ⟨Ht, Hr⟩
  unfold ldStart
  ihave HW := (copy_start c (wTile off ho) (wSlot k hk) (ldS k hk) (View.dmaCredit_pos _ (by decide)) (wShare k) (wv m c off ho)) $$ [Ht Hs Hv]
  · isplitl [Ht]; · iexact Ht
    isplitl [Hs] <;> iassumption
  iapply (wp_wand frame _ _) $$ HW
  iintro %v HF
  unfold ldFl
  isplitl [HF] <;> iassumption
end Load

/-! ## The local semaphores are at level 0 -/

theorem ne_ld : ∀ (k : Fin 2) (i : CI), csem i ≠ .dma (ldS k.1 k.2) := by decide +kernel
theorem lv_ld (k : ℕ) (hk : k < 2) : lvOf (cls (.dma (ldS k hk))) = 0 := by rw [cls_none (ne_ld ⟨k, hk⟩)]; rfl
theorem ne_lo : ∀ (k : Fin 2) (i : CI), csem i ≠ .dma (loS k.1 k.2) := by decide +kernel
theorem lv_lo (k : ℕ) (hk : k < 2) : lvOf (cls (.dma (loS k hk))) = 0 := by rw [cls_none (ne_lo ⟨k, hk⟩)]; rfl
theorem ne_cv : ∀ (k : Fin 2) (i : CI), csem i ≠ .dma (cvS k.1 k.2) := by decide +kernel
theorem lv_cv (k : ℕ) (hk : k < 2) : lvOf (cls (.dma (cvS k hk))) = 0 := by rw [cls_none (ne_cv ⟨k, hk⟩)]; rfl

/-! ## Computing a tile -/

theorem hz2 : (![0, 0] : Fin 2 → Nat) = fun _ => 0 := funext fun a => by fin_cases a <;> rfl

theorem ldX_rule : xPts m c ⊢ WP c ldX fun x => iprop(⌜x = xv m c⌝ ∗ xPts m c) := by
  unfold xPts ldX
  iintro H
  iapply (wp_load 𝒱₀ (c : Thread nD τ) none Set.univ (m := xM) (Finset.subset_univ _)) $$ H
  iintro H
  rw [wp_ret]; imodintro
  isplitr
  · ipureintro; exact Memref.readAt_unit_zero (Elt F) cc0_stg0_0 hz2 _ _
  · iexact H

section Comp
variable (k : ℕ) (hk : k < 2) (off : Fin 2 → ℕ) (ho : ∀ a, off a + S4096x512.size a ≤ S4096x8192.size a)

/-- What is computed from the loaded tile is a function of the block of `x` and the weight tile only. -/
theorem comp_rule {s : Shape} {e : EltTy} (pay : Vec F S1024x4096 .f32 → Vec F S1x4096x512 .f32 → (s.Idx → Elt F e))
    (tile : FVec F S1024x4096 .f32 → FVec F S4096x512 .f32 → (s.Idx → Elt F e))
    (hpay : ∀ x w, pay x w = tile x (shapeCast S4096x512 w shapeCasts_S1x4096x512_S4096x512)) (l : List (Fin 3 × Fin 4)) :
    iprop(ctx m K ∗ ldFl m c k hk off ho ∗ xPts m c ∗ ow c (owedL c l))
      ⊢ (WP c (ldWait k hk off ho >>= fun _ => ldX >>= fun x => ldW k hk >>= fun w => pure (pay x w)) fun p =>
          iprop(⌜p = tile (xv m c) (wv m c off ho)⌝ ∗ ldFree m c k hk ∗ xPts m c ∗ ow c (owedL c l)) : sProp 𝕄) := by
  unfold ldFl ldWait
  iintro ⟨#Hc, ⟨HF, Hr⟩, Hx, Ho⟩
  iapply (use' (copy_wait c (wTile off ho) (wSlot k hk) (ldS k hk) (by rw [lv_ld]; decide) _ l)) $$ [HF Ho]
  · isplitl [HF]; · iexact HF
    isplitl [Ho]; · iexact Ho
    iapply (ctx_lev m K); iexact Hc
  iintro ⟨⟨Hs, Ht⟩, Hv, Ho⟩
  ihave Hw := (wTile_join m c k off ho) $$ [Ht Hr]
  · isplitl [Ht] <;> iassumption
  iapply (use (ldX_rule m c)) $$ Hx
  iintro %x ⟨%hx, Hx⟩
  unfold ldW
  iapply (use (load_slot c wbM (wR k hk) (fun _ => rfl) squeezes_S1x4096x512_S4096x512 shapeCasts_S1x4096x512_S4096x512 (wv m c off ho))) $$ Hs
  iintro %w ⟨%hw, Hs⟩
  unfold WP; rw [Prog.pure_eq_ret, wp_ret]; imodintro
  isplitr
  · ipureintro; rw [hpay, hx]; exact congrArg _ hw
  isplitl [Hw Hs Hv]
  · unfold ldFree anyOf
    isplitl [Hw]; · iexact Hw
    isplitl [Hs]; · iexists _; iexact Hs
    iexact Hv
  isplitl [Hx] <;> iassumption

theorem comp16_rule (l : List (Fin 3 × Fin 4)) :
    iprop(ctx m K ∗ ldFl m c k hk off ho ∗ xPts m c ∗ ow c (owedL c l))
      ⊢ (WP c (comp16 k hk off ho) fun p =>
          iprop(⌜p = shapeCast S1x1024x512 (tile16 (xv m c) (wv m c off ho)) shapeCasts_S1024x512_S1x1024x512⌝
            ∗ ldFree m c k hk ∗ xPts m c ∗ ow c (owedL c l)) : sProp 𝕄) := by
  unfold comp16
  exact comp_rule (s := S1x1024x512) (e := .bf16) m K c k hk off ho k0_pay5 (fun x w => shapeCast S1x1024x512 (tile16 x w) shapeCasts_S1024x512_S1x1024x512) (fun x w => pay16_eq x w) l

theorem comp32_rule (l : List (Fin 3 × Fin 4)) :
    iprop(ctx m K ∗ ldFl m c k hk off ho ∗ xPts m c ∗ ow c (owedL c l))
      ⊢ (WP c (comp32 k hk off ho) fun p =>
          iprop(⌜p = shapeCast S1x1024x512 (tile32 (xv m c) (wv m c off ho)) shapeCasts_S1024x512_S1x1024x512⌝
            ∗ ldFree m c k hk ∗ xPts m c ∗ ow c (owedL c l)) : sProp 𝕄) := by
  unfold comp32
  exact comp_rule (s := S1x1024x512) (e := .f32) m K c k hk off ho k0_pay35 (fun x w => shapeCast S1x1024x512 (tile32 x w) shapeCasts_S1024x512_S1x1024x512) (fun x w => pay32_eq x w) l
end Comp

/-! ## Staging a tile -/

section Stage
variable (k : ℕ) (hk : k < 2)
theorem st16_rule (X : FVec F S1024x512 .bf16) :
    anyOf (F := F) c (s16 k hk) ⊢ (WP c (st16 k hk (shapeCast S1x1024x512 X shapeCasts_S1024x512_S1x1024x512)) fun _ => ownsTc c (s16 k hk) fullShare X : sProp 𝕄) := by
  unfold st16
  iintro H
  iapply (use (load_any c s16M (tR k hk) (fun _ => rfl) squeezes_S1x1024x512_S1024x512 shapeCasts_S1x1024x512_S1024x512)) $$ H
  iintro %v H
  iapply (store_slot c s16M (tR k hk) (fun _ => rfl) squeezes_S1x1024x512_S1024x512 shapeCasts_S1x1024x512_S1024x512 shapeCasts_S1024x512_S1x1024x512 X) $$ H
theorem st32_rule (X : FVec F S1024x512 .f32) :
    anyOf (F := F) c (s32 k hk) ⊢ (WP c (st32 k hk (shapeCast S1x1024x512 X shapeCasts_S1024x512_S1x1024x512)) fun _ => ownsTc c (s32 k hk) fullShare X : sProp 𝕄) := by
  unfold st32
  iintro H
  iapply (use (load_any c s32M (tR k hk) (fun _ => rfl) squeezes_S1x1024x512_S1024x512 shapeCasts_S1x1024x512_S1024x512)) $$ H
  iintro %v H
  iapply (store_slot c s32M (tR k hk) (fun _ => rfl) squeezes_S1x1024x512_S1024x512 shapeCasts_S1x1024x512_S1024x512 shapeCasts_S1024x512_S1x1024x512 X) $$ H
/-- A landed tile is read, widened and stored. -/
theorem conv_rule (a : Fin 3) (b : Fin 4) (V : FVec F S1024x512 .bf16) :
    iprop(ownsTc c (rvF a b) fullShare V ∗ anyOf (F := F) c (cv k hk))
      ⊢ (WP c (conv a.1 b.1 a.2 b.2 k hk) fun _ => iprop(ownsTc c (rvF a b) fullShare V ∗ ownsTc c (cv k hk) fullShare (extf .f32 V bitsLt_bf16_f32)) : sProp 𝕄) := by
  unfold conv
  iintro ⟨Hr, H⟩
  iapply (use (load_slot c rvM (rR a.1 b.1 a.2 b.2) (fun _ => rfl) squeezes_S1x1x1024x512_S1024x512 shapeCasts_S1x1x1024x512_S1024x512 V)) $$ Hr
  iintro %v ⟨%hv, Hr⟩
  iapply (use (load_any c cvM (tR k hk) (fun _ => rfl) squeezes_S1x1024x512_S1024x512 shapeCasts_S1x1024x512_S1024x512)) $$ H
  iintro %v' H
  rw [show k0_pay33 v = shapeCast S1x1024x512 (extf .f32 V bitsLt_bf16_f32) shapeCasts_S1024x512_S1x1024x512 from by rw [← hv]; rfl]
  ihave H := (store_slot c cvM (tR k hk) (fun _ => rfl) squeezes_S1x1024x512_S1024x512 shapeCasts_S1x1024x512_S1024x512 shapeCasts_S1024x512_S1x1024x512
    (extf .f32 V bitsLt_bf16_f32)) $$ H
  iapply (wp_wand frame _ _) $$ H
  iintro %_ H
  isplitl [Hr] <;> iassumption
end Stage

end Cert.K

end
-- ==== Proof.Xfer.lean ====
/-
# The rules of the steps that talk to other devices

The entry handshake, a send, the wait for its source slot, the wait for a landed tile; then the body's composite steps.
-/
module

public import proofs.«01_k».proof.Proof.StepRules

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The handshake -/

/-- The landing slots of one device. -/
def landing (d : Dev nD) (a : Fin 3) : sProp 𝕄 := bigSep Finset.univ fun b : Fin 4 => anyOf (F := F) d (rvF a b)

theorem payload_bar (a : Fin 3) : (Rd (F := F) m).payload (barCell (src c a)) 0 a = landing (F := F) c a := by
  rw [payload_cell]; show barPay (F := F) (src c a) a = _; unfold barPay landing; rw [dst_src]

/-- One signal: device `c` tells `src c a` that its landing slots `(a, ·)` are free. -/
theorem signal_rule (n : Dev nD) (a : Fin 3) (hn : n = src c a) (O : CellTallies nD τ sig Unit) :
    iprop(ctx m K ∗ ow c (O + tallyAt (barCell (src c a)) () 1) ∗ dutyTok ER (barCell (src c a)) 0 a ∗ landing (F := F) c a)
      ⊢ (WP c (semSignalWord n barS 1#32) fun _ => ow c O : sProp 𝕄) := by
  subst hn
  have hp : landing (F := F) c a ⊢ (Rd (F := F) m).payload ((src c a : Thread nD τ), SemLoc.reg barS) 0 a := Entails.of_eq (payload_bar m c a).symm
  unfold ow
  iintro ⟨#Hc, ⟨%W, HO⟩, Ht, Hl⟩
  simp only [semSignalWord, Prog.lift]
  iapply (Rounds.wp_signal 𝒱₀ ER (Rd m) (c : Thread nD τ) none (dst := (src c a : Thread nD τ)) (κ := K (src c a, none))
      (d := a) (duties_cell m (src c a) none ▸ Finset.mem_univ a) ((amount_cell m (src c a) none a).trans (by decide)) () O rfl) $$ [HO Ht Hl]
  · isplitr; · iapply (inv_at m K (src c a, none)); iapply (ctx_rec m K); iexact Hc
    isplitl [HO]; · iexact HO
    isplitl [Ht]; · iexact Ht
    isplitl [Hl]; · iapply hp; iexact Hl
    iapply (reached_at m K (src c a, none)); iapply (ctx_rec m K); iexact Hc
  iintro HO
  rw [wp_ret]; imodintro
  iexists W; iexact HO

/-- Waiting for the three signals gives the landing slots of the three other devices this one sends to. -/
theorem barWait_rule :
    iprop(ctx m K ∗ ow c (owedL c sendOrder) ∗ cred (tallyAt (barCell c) () 3) ∗ atPos ER (barCell c) 0 ∅ 0)
      ⊢ (WP c (semWaitWord barS 3#32) fun _ => iprop(ow c (owedL c sendOrder) ∗ zero c (.reg barS)
          ∗ bigSep Finset.univ fun a : Fin 3 => landing (F := F) (dst c a) a) : sProp 𝕄) := by
  unfold ow
  iintro ⟨#Hc, ⟨%W, HO⟩, Hcr, Hat⟩
  simp only [semWaitWord, Prog.lift]
  iapply (Rounds.wp_wait_rest_token 𝒱₀ ER (Rd m) (c : Thread nD τ) none (κ := K (c, none)) (sm := csem none)
      (wpE_semWait_eq 𝒱₀ (c : Thread nD τ) none Set.univ) (Set.mem_univ _) () (O := owedL c sendOrder) (W := W) (R := 0) (m := 0) (T := ∅)
      ((by decide : 0 + (3#32 : BitVec 32).toNat = 3).trans (expect_bar m c).symm)) $$ [HO Hcr Hat]
  · isplitr; · iapply (inv_at m K (c, none)); iapply (ctx_rec m K); iexact Hc
    isplitl [Hcr]; · iexact Hcr
    isplitl [HO]; · iexact HO
    isplitr
    · iapply (mayWait_owed c (csem none) sendOrder (by rw [cls_csem]; decide))
      iapply (ctx_lev m K); iexact Hc
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iapply (ctx_rec m K); iexact Hc
    iexact Hat
  rw [wp_ret]; imodintro
  isplitl [HO]; · iexists _; iexact HO
  isplitl [Hz]; · iexact Hz
  iexact Hp

/-! ## A cell's wait, a send: the general form -/

/-- The wait for the whole of cell `x`'s round, for any memrefs the wait names. -/
theorem tile_wait (x : Bool × Fin 3 × Fin 4) (q : DmaSem sig) (hq : csem (some x) = .dma q) {sp sp' : Space} {s : Shape} {e e' : EltTy}
    (S : Memref sig .tc sp s e) (T : Memref sig .tc sp' s e') {hs : S.view.WordExact} {ht : T.view.WordExact} (hN : T.view.dmaCredit = N)
    (l : List (Fin 3 × Fin 4)) (hl : x.1 = false ∨ l = []) (P : sProp 𝕄)
    (hP : bigSep ((Rd (F := F) m).duties (kcell (c, some x)) 0 \ ∅) (fun d => (Rd (F := F) m).payload (kcell (c, some x)) 0 d) = P) :
    iprop(ctx m K ∗ cred (tallyAt (kcell (c, some x)) () N) ∗ atPos ER (kcell (c, some x)) 0 ∅ 0 ∗ ow c (owedL c l))
      ⊢ (WP c (Prog.lift (.waitDma2 q S T hs ht)) fun _ => iprop(P ∗ zero c (csem (some x)) ∗ ow c (owedL c l)) : sProp 𝕄) := by
  subst hP
  have hk : kcell (c, some x) = ((c : Thread nD τ), SemLoc.dma q) := by rw [← hq]
  have hd := duties_later (F := F) m (kcell (c, some x))
  have hex := expect_xfer m c x
  have hlv : lvOf (cls (SemLoc.dma q)) < 2 ∨ l = [] := hl.imp_left fun h => by
    obtain ⟨x1, x2⟩ := x; rw [← hq, cls_csem]; cases h; exact Nat.succ_pos 1
  have hinv : ctx m K ⊢ cellInv ER (Rd m) (K (c, some x)) (kcell (c, some x)) := (ctx_rec m K).trans (inv_at m K (c, some x))
  rw [hq]; rw [hk] at hinv hex hd ⊢
  unfold ow Prog.lift
  iintro ⟨#Hc, Hcr, Hat, ⟨%W, HO⟩⟩
  iapply (Rounds.wp_wait_rest_token 𝒱₀ ER (Rd m) (c : Thread nD τ) none (κ := K (c, some x)) (sm := .dma q)
      (wpE_waitDma2_eq 𝒱₀ (c : Thread nD τ) none Set.univ) (Set.mem_univ _) () (O := owedL c l) (W := W) (R := 0) (m := 0) (T := ∅)
      (by rw [Nat.zero_add, hex, hN])) $$ [Hcr HO Hat]
  · isplitr; · iapply hinv; iexact Hc
    isplitl [Hcr]; · rw [hN]; iexact Hcr
    isplitl [HO]; · iexact HO
    isplitr
    · rcases hlv with hlv | rfl
      · iapply (mayWait_owed c (.dma q) l hlv); iapply (ctx_lev m K); iexact Hc
      · rw [show owedL c [] = 0 from rfl, MayWait_zero]; iempintro
    iexact Hat
  iintro ⟨HO, Hat, -, Hpay⟩
  imod (Rounds.cell_close ER (Rd m) (Set.mem_univ (K (c, some x))) (fun h => h) (R := 0 + 1) hd) $$ [Hat] with Hz
  · isplitr; · iapply hinv; iexact Hc
    iexact Hat
  rw [wp_ret]; imodintro
  isplitl [Hpay]; · iexact Hpay
  isplitl [Hz]; · iexact Hz
  iexists _; iexact HO

/-- A send from `S` to `T` on device `d`, between cell `x` here and cell `y` there. -/
theorem tile_send (d : Dev nD) (x y : Bool × Fin 3 × Fin 4) (qs qr : DmaSem sig) (hqs : csem (some x) = .dma qs) (hqr : csem (some y) = .dma qr)
    (hx : x.1 = false) (hy : y.1 = true) {sp sp' : Space} {s : Shape} {e : EltTy}
    (S : Memref sig .tc sp s e) (T : Memref sig .tc sp' s e) {hs : S.view.WordExact} {ht : T.view.WordExact} {hT : T.view.ref.isScScratch = false}
    {hsem : DmaTarget.Typed (p := .tc) sp (SemLoc.dma qr) (DmaTarget.remote (nD := nD) (τ := τ) (p := .tc) (Dev.tc d) T (SemLoc.dma qs) hT)} (hN : T.view.dmaCredit = N)
    (V : s.Idx → Elt F e) (O : CellTallies nD τ sig Unit)
    (h₁ : anyOf (F := F) c S ⊢ payOf m c 0 (some (some x))) (h₂ : ownsTc (Val := Elt F) d T fullShare V ⊢ payOf m d 0 (some (some y))) :
    iprop(ctx m K ∗ ownsTc c S fullShare V ∗ ow c (O + tallyAt (kcell (d, some y)) () N) ∗ dutyTok ER (kcell (c, some x)) 0 0
        ∗ dutyTok ER (kcell (d, some y)) 0 0 ∗ anyOf (F := F) d T)
      ⊢ (WP c (Prog.lift (.enqueueDma S (.remote (Dev.tc d) T (.dma qs) hT) (.dma qr) hs ht hsem)) fun _ =>
          iprop(ow c O ∗ cred (tallyAt (kcell (c, some x)) () N)) : sProp 𝕄) := by
  have hkx : kcell (c, some x) = ((c : Thread nD τ), SemLoc.dma qs) := by rw [← hqs]
  have hky : kcell (d, some y) = ((d : Thread nD τ), SemLoc.dma qr) := by rw [← hqr]
  have hd1 : (0 : Fin 3) ∈ (Rd (F := F) m).duties (kcell (c, some x)) 0 := by rw [duties_cell]; exact Finset.mem_singleton_self _
  have hd2 : (0 : Fin 3) ∈ (Rd (F := F) m).duties (kcell (d, some y)) 0 := by rw [duties_cell]; exact Finset.mem_singleton_self _
  have ha1 : (Rd (F := F) m).amount (kcell (c, some x)) 0 0 = N := amount_cell m c (some x) 0
  have ha2 : (Rd (F := F) m).amount (kcell (d, some y)) 0 0 = N := amount_cell m d (some y) 0
  have hp1 : anyOf (F := F) c S ⊢ (Rd (F := F) m).payload (kcell (c, some x)) 0 0 := by rw [payload_cell]; exact h₁
  have hp2 : ownsTc (Val := Elt F) d T fullShare V ⊢ (Rd (F := F) m).payload (kcell (d, some y)) 0 0 := by rw [payload_cell]; exact h₂
  have hi1 : ctx m K ⊢ cellInv ER (Rd m) (K (c, some x)) (kcell (c, some x)) := (ctx_rec m K).trans (inv_at m K (c, some x))
  have hi2 : ctx m K ⊢ cellInv ER (Rd m) (K (d, some y)) (kcell (d, some y)) := (ctx_rec m K).trans (inv_at m K (d, some y))
  have hr1 : ctx m K ⊢ reached ER (kcell (c, some x)) 0 := (ctx_rec m K).trans (reached_at m K (c, some x))
  have hr2 : ctx m K ⊢ reached ER (kcell (d, some y)) 0 := (ctx_rec m K).trans (reached_at m K (d, some y))
  rw [hkx] at hd1 ha1 hp1 hi1 hr1 ⊢; rw [hky] at hd2 ha2 hp2 hi2 hr2 ⊢
  unfold ow anyOf ownsTc owns Prog.lift
  iintro ⟨#Hc, ⟨%fs, %hfs, Hs⟩, ⟨%W, HO⟩, Ht1, Ht2, ⟨%Y, %fd, -, Hd⟩⟩
  iapply (Rounds.wp_send_pointsTo 𝒱₀ ER (Rd m) (c : Thread nD τ) none (κ₁ := K (c, some x)) (κ₂ := K (d, some y))
    (r₁ := 0) (r₂ := 0) (d₁ := 0) (d₂ := 0) (fd := fd) (fs := fs) hd1 hd2
    () () N hN ha1 ha2 O rfl (W := W)
    (by
      refine BIBase.Entails.trans ?_ hp1
      unfold anyOf
      iintro H; iexists _; iapply (owns_intro (c : Thread nD τ) S fullShare); iexact H)
    (by
      refine BIBase.Entails.trans ?_ hp2
      unfold ownsTc owns
      iintro H; iexists _; isplitr; swap; · iexact H
      ipureintro; rw [View.read_write_univ]; exact hfs)) $$ [Hs HO Ht1 Ht2 Hd]
  · isplitr; · iapply hi1; iexact Hc
    isplitr; · iapply hi2; iexact Hc
    isplitl [Hs]; · iexact Hs
    isplitl [Hd]; · iexact Hd
    isplitl [HO]; · iexact HO
    isplitl [Ht1]; · iexact Ht1
    isplitr; · iapply hr1; iexact Hc
    isplitl [Ht2]; · iexact Ht2
    iapply hr2; iexact Hc
  iintro ⟨Hcr, HO⟩
  rw [wp_ret]; imodintro
  isplitl [HO]; · iexists W; iexact HO
  iexact Hcr

/-! ## The sends and the waits of the body -/

/-- What device `c` holds for the send of tile `(a, b)` still to come; -/
def sendTok (a : Fin 3) (b : Fin 4) : sProp 𝕄 :=
  iprop(dutyTok ER (sendCell c a b) 0 0 ∗ dutyTok ER (recvCell (dst c a) a b) 0 0 ∗ atPos ER (sendCell c a b) 0 ∅ 0)
/-- and once it is on its way. -/
def sent (a : Fin 3) (b : Fin 4) : sProp 𝕄 := iprop(cred (tallyAt (sendCell c a b) () N) ∗ atPos ER (sendCell c a b) 0 ∅ 0)
/-- What it holds for the tile `(a, b)` still to be received. -/
def recvTok (a : Fin 3) (b : Fin 4) : sProp 𝕄 := iprop(cred (tallyAt (recvCell c a b) () N) ∗ atPos ER (recvCell c a b) 0 ∅ 0)

/-- The semaphore of send cell `(a, b)`, of receive cell `(a, b)`, at zero. -/
abbrev zeroS (a : Fin 3) (b : Fin 4) : sProp 𝕄 := zero (F := F) c (csem (some (false, a, b)))
abbrev zeroR (a : Fin 3) (b : Fin 4) : sProp 𝕄 := zero (F := F) c (csem (some (true, a, b)))

theorem send_rule (n : Dev nD) (a : Fin 3) (b : Fin 4) (hn : n = dst c a) (k : ℕ) (hk : k < 2) (hs : k = slotOf a b) (l : List (Fin 3 × Fin 4)) :
    iprop(ctx m K ∗ ownsTc c (s16 k hk) fullShare (sentTile m c a b) ∗ ow c (owedL c ((a, b) :: l)) ∗ sendTok (F := F) c a b ∗ anyOf (F := F) (dst c a) (rvF a b))
      ⊢ (WP c (send n a.1 b.1 a.2 b.2 k hk) fun _ => iprop(ow c (owedL c l) ∗ sent (F := F) c a b) : sProp 𝕄) := by
  subst hn; subst hs
  have h := tile_send m K c (dst c a) (false, a, b) (true, a, b) (snS a.1 b.1 a.2 b.2) (rcS a.1 b.1 a.2 b.2) rfl rfl rfl rfl
    (s16 (slotOf a b) hk) (rvF a b) (hs := ((Memref.isWhole_whole cc0_scratch1).wordExact_slice rfl _ (words_t hk)).reshape _ _)
    (ht := ((Memref.isWhole_whole cc0_scratch3).wordExact_slice rfl _ (words_r a.2 b.2)).reshape _ _) (hT := rfl) (hsem := ⟨⟨rfl, Or.inl rfl⟩, trivial⟩)
    rfl (sentTile m c a b) (owedL c l) Entails.rfl
    (by show _ ⊢ recvPay m (dst c a) a b; unfold recvPay; rw [src_dst])
  unfold sendTok sent
  iintro ⟨Hc, Hs, HO, ⟨Ht1, Ht2, Hat⟩, Hd⟩
  iapply (wp_wand frame _ _) $$ [Hc Hs HO Ht1 Ht2 Hd]
  · iapply h
    isplitl [Hc]; · iexact Hc
    isplitl [Hs]; · iexact Hs
    isplitl [HO]; · iexact HO
    isplitl [Ht1]; · iexact Ht1
    isplitl [Ht2] <;> iassumption
  iintro %u ⟨HO, Hcr⟩
  isplitl [HO]; · iexact HO
  isplitl [Hcr] <;> iassumption

theorem sendWait_rule (a : Fin 3) (b : Fin 4) (k : ℕ) (hk : k < 2) (hs : k = slotOf a b) (l : List (Fin 3 × Fin 4)) :
    iprop(ctx m K ∗ sent (F := F) c a b ∗ ow c (owedL c l))
      ⊢ (WP c (sendWait a.1 b.1 a.2 b.2 k hk) fun _ => iprop(anyOf (F := F) c (s16 k hk) ∗ zeroS (F := F) c a b ∗ ow c (owedL c l)) : sProp 𝕄) := by
  subst hs
  unfold sent
  iintro ⟨Hc, ⟨Hcr, Hat⟩, HO⟩
  iapply (tile_wait m K c (false, a, b) (snS a.1 b.1 a.2 b.2) rfl (rvF a b) (s16 (slotOf a b) hk) rfl l (.inl rfl) _ (rest_send m c a b))
  isplitl [Hc]; · iexact Hc
  isplitl [Hcr]; · iexact Hcr
  isplitl [Hat] <;> iassumption

theorem recvWait_rule (a : Fin 3) (b : Fin 4) (k : ℕ) (hk : k < 2) :
    iprop(ctx m K ∗ recvTok (F := F) c a b ∗ ow c (owedL c []))
      ⊢ (WP c (recvWait a.1 b.1 a.2 b.2 k hk) fun _ =>
          iprop(ownsTc c (rvF a b) fullShare (sentTile m (src c a) a b) ∗ zeroR (F := F) c a b ∗ ow c (owedL c [])) : sProp 𝕄) := by
  unfold recvTok
  iintro ⟨Hc, ⟨Hcr, Hat⟩, HO⟩
  iapply (tile_wait m K c (true, a, b) (rcS a.1 b.1 a.2 b.2) rfl (s16 k hk) (rvF a b) rfl [] (.inr rfl) _ (rest_recv m c a b))
  isplitl [Hc]; · iexact Hc
  isplitl [Hcr]; · iexact Hcr
  isplitl [Hat] <;> iassumption

end Cert.K

end
-- ==== Proof.Comp.lean ====
/-
# The composite steps

One rule for each kind of step of the body: what it takes, what it leaves.
-/
module

public import proofs.«01_k».proof.Proof.Xfer
public import proofs.«01_k».proof.Proof.BodyEq

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The handshake -/

/-- A conjunction over three, over four. -/
theorem sep3 (Φ : Fin 3 → sProp 𝕄) : bigSep Finset.univ Φ = iprop(Φ 0 ∗ Φ 1 ∗ Φ 2) :=
  bigSep_univ_eq_bigSepL [0, 1, 2] (by decide) (by decide) Φ
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem handshake_rule :
    iprop(ctx m K ∗ ow c (O₀ c) ∗ (bigSep Finset.univ fun a : Fin 3 => dutyTok ER (barCell (src c a)) 0 a) ∗ (bigSep Finset.univ fun a : Fin 3 => landing (F := F) c a)
        ∗ cred (tallyAt (barCell c) () 3) ∗ atPos ER (barCell c) 0 ∅ 0)
      ⊢ (WP c (handshake c) fun _ => iprop(ow c (owedL c sendOrder) ∗ zero c (.reg barS)
          ∗ bigSep Finset.univ fun a : Fin 3 => landing (F := F) (dst c a) a) : sProp 𝕄) := by
  have h1 : (⟨k0_dev1 c, k0_dev1_lt c⟩ : Dev nD) = src c 2 := by revert c; decide +kernel
  have h2 : (⟨k0_dev2 c, k0_dev2_lt c⟩ : Dev nD) = src c 1 := by revert c; decide +kernel
  have h3 : (⟨k0_dev3 c, k0_dev3_lt c⟩ : Dev nD) = src c 0 := by revert c; decide +kernel
  rw [sep3, sep3 fun a => landing (F := F) c a]
  unfold handshake O₀
  iintro ⟨#Hc, HO, ⟨Ht0, Ht1, Ht2⟩, ⟨Hl0, Hl1, Hl2⟩, Hcr, Hat⟩
  iapply (use' (signal_rule m K c _ 2 h1 _)) $$ [HO Ht2 Hl2]
  · iframe HO Ht2; isplitr; · iexact Hc
    iexact Hl2
  iintro HO
  iapply (use' (signal_rule m K c _ 1 h2 _)) $$ [HO Ht1 Hl1]
  · iframe HO Ht1; isplitr; · iexact Hc
    iexact Hl1
  iintro HO
  iapply (use' (signal_rule m K c _ 0 h3 _)) $$ [HO Ht0 Hl0]
  · iframe HO Ht0; isplitr; · iexact Hc
    iexact Hl0
  iintro HO
  iapply (barWait_rule m K c)
  iframe HO Hcr Hat; iexact Hc

/-! ## Tiles sent away -/

section Rem
variable (k : ℕ) (hk : k < 2) (k' : ℕ) (hk' : k' < 2) (off : Fin 2 → ℕ) (ho : ∀ a, off a + S4096x512.size a ≤ S4096x8192.size a)
    (off' : Fin 2 → ℕ) (ho' : ∀ a, off' a + S4096x512.size a ≤ S4096x8192.size a) (n : Dev nD) (a : Fin 3) (b : Fin 4)

theorem remStep0_rule (hn : n = dst c a) (hs : k = slotOf a b) (hv : tile16 (xv m c) (wv m c off ho) = sentTile m c a b) (l : List (Fin 3 × Fin 4)) :
    iprop(ctx m K ∗ ldFl m c k hk off ho ∗ ldFree m c k' hk' ∗ xPts m c ∗ ow c (owedL c ((a, b) :: l)) ∗ anyOf c (s16 k hk) ∗ sendTok (F := F) c a b
        ∗ anyOf (F := F) (dst c a) (rvF a b))
      ⊢ (WP c (remStep0 k hk k' hk' off ho off' ho' n a.1 b.1 a.2 b.2) fun _ =>
          iprop(ldFree m c k hk ∗ ldFl m c k' hk' off' ho' ∗ xPts m c ∗ ow c (owedL c l) ∗ sent (F := F) c a b) : sProp 𝕄) := by
  unfold remStep0
  iintro ⟨#Hc, Hfl, Hfr, Hx, HO, Hs, Ht, Hd⟩
  iapply (use' (ldStart_rule m c k' hk' off' ho')) $$ Hfr
  iintro Hfl'
  iapply (use (comp16_rule m K c k hk off ho ((a, b) :: l))) $$ [Hfl Hx HO]
  · iframe Hfl Hx HO; iexact Hc
  iintro %p ⟨%hp, Hfr, Hx, HO⟩
  subst hp
  iapply (use' (st16_rule c k hk (tile16 (xv m c) (wv m c off ho)))) $$ Hs
  iintro Hs
  rw [hv]
  iapply (wp_wand frame _ _) $$ [HO Hs Ht Hd]
  · iapply (send_rule m K c n a b hn k hk hs l)
    iframe HO Hs Ht Hd; iexact Hc
  iintro %u ⟨HO, Hs⟩
  iframe Hfr Hfl' Hx HO; iexact Hs

theorem remStep_rule (hn : n = dst c a) (hs : k = slotOf a b) (hv : tile16 (xv m c) (wv m c off ho) = sentTile m c a b) (l : List (Fin 3 × Fin 4))
    (pa : Fin 3) (pb : Fin 4) (hp : k = slotOf pa pb) :
    iprop(ctx m K ∗ ldFl m c k hk off ho ∗ ldFree m c k' hk' ∗ xPts m c ∗ ow c (owedL c ((a, b) :: l)) ∗ sent (F := F) c pa pb ∗ sendTok (F := F) c a b
        ∗ anyOf (F := F) (dst c a) (rvF a b))
      ⊢ (WP c (remStep k hk k' hk' off ho off' ho' n a.1 b.1 a.2 b.2 pa.1 pb.1 pa.2 pb.2) fun _ =>
          iprop(ldFree m c k hk ∗ ldFl m c k' hk' off' ho' ∗ xPts m c ∗ ow c (owedL c l) ∗ sent (F := F) c a b ∗ zeroS (F := F) c pa pb) : sProp 𝕄) := by
  unfold remStep
  iintro ⟨#Hc, Hfl, Hfr, Hx, HO, Hs, Ht, Hd⟩
  iapply (use' (ldStart_rule m c k' hk' off' ho')) $$ Hfr
  iintro Hfl'
  iapply (use (comp16_rule m K c k hk off ho ((a, b) :: l))) $$ [Hfl Hx HO]
  · iframe Hfl Hx HO; iexact Hc
  iintro %p ⟨%hp, Hfr, Hx, HO⟩
  subst hp
  iapply (use' (sendWait_rule m K c pa pb k hk hp _)) $$ [Hs HO]
  · iframe Hs HO; iexact Hc
  iintro ⟨Hs, Hz, HO⟩
  iapply (use' (st16_rule c k hk (tile16 (xv m c) (wv m c off ho)))) $$ Hs
  iintro Hs
  rw [hv]
  iapply (wp_wand frame _ _) $$ [HO Hs Ht Hd]
  · iapply (send_rule m K c n a b hn k hk hs l)
    iframe HO Hs Ht Hd; iexact Hc
  iintro %u ⟨HO, Hs⟩
  iframe Hfr Hfl' Hx HO Hs; iexact Hz
end Rem

/-! ## Tiles kept, tiles taken -/

section Out
variable (k : ℕ) (hk : k < 2) (o : Fin 2 → ℕ) (hoo : ∀ a, o a + S1024x512.size a ≤ S4096x2048.size a) (X : S1024x512.Idx → Elt F .f32)

/-- A free result slot for this device's own tiles; the slot being copied to `o`. -/
def loFree : sProp 𝕄 := iprop(anyOf (F := F) c (s32 k hk) ∗ zero c (.dma (loS k hk)))
def loFl : sProp 𝕄 := Flight EC (c : Thread nD τ) (.dma (loS k hk)) () (oTile o hoo).view.dmaCredit
  iprop(ownsTc c (oTile o hoo) fullShare X ∗ ownsTc c (s32 k hk) fullShare X)
/-- The same for the tiles received. -/
def cvFree : sProp 𝕄 := iprop(anyOf (F := F) c (cv k hk) ∗ zero c (.dma (cvS k hk)))
def cvFl : sProp 𝕄 := Flight EC (c : Thread nD τ) (.dma (cvS k hk)) () (oTile o hoo).view.dmaCredit
  iprop(ownsTc c (oTile o hoo) fullShare X ∗ ownsTc c (cv k hk) fullShare X)

theorem loStart_rule : iprop(ownsTc c (s32 k hk) fullShare X ∗ anyOf (F := F) c (oTile o hoo) ∗ zero c (.dma (loS k hk)))
    ⊢ (WP c (loStart k hk o hoo) fun _ => loFl c k hk o hoo X : sProp 𝕄) :=
  copy_start c (s32 k hk) (oTile o hoo) (loS k hk) (View.dmaCredit_pos _ (by decide)) fullShare X
theorem cvStart_rule : iprop(ownsTc c (cv k hk) fullShare X ∗ anyOf (F := F) c (oTile o hoo) ∗ zero c (.dma (cvS k hk)))
    ⊢ (WP c (cvStart k hk o hoo) fun _ => cvFl c k hk o hoo X : sProp 𝕄) :=
  copy_start c (cv k hk) (oTile o hoo) (cvS k hk) (View.dmaCredit_pos _ (by decide)) fullShare X

theorem loWait_rule (l : List (Fin 3 × Fin 4)) : iprop(ctx m K ∗ loFl c k hk o hoo X ∗ ow c (owedL c l))
    ⊢ (WP c (loWait k hk o hoo) fun _ => iprop(ownsTc c (oTile o hoo) fullShare X ∗ loFree (F := F) c k hk ∗ ow c (owedL c l)) : sProp 𝕄) := by
  unfold loFl loFree anyOf
  iintro ⟨#Hc, Hf, HO⟩
  iapply (wp_wand frame _ _) $$ [Hf HO]
  · iapply (copy_wait c (s32 k hk) (oTile o hoo) (loS k hk) (by rw [lv_lo]; decide) _ l)
    iframe Hf HO; iapply (ctx_lev m K); iexact Hc
  iintro %u ⟨⟨H1, H2⟩, Hz, HO⟩
  iframe H1 HO Hz; iexists X; iexact H2
theorem cvWait_rule (l : List (Fin 3 × Fin 4)) : iprop(ctx m K ∗ cvFl c k hk o hoo X ∗ ow c (owedL c l))
    ⊢ (WP c (cvWait k hk o hoo) fun _ => iprop(ownsTc c (oTile o hoo) fullShare X ∗ cvFree (F := F) c k hk ∗ ow c (owedL c l)) : sProp 𝕄) := by
  unfold cvFl cvFree anyOf
  iintro ⟨#Hc, Hf, HO⟩
  iapply (wp_wand frame _ _) $$ [Hf HO]
  · iapply (copy_wait c (cv k hk) (oTile o hoo) (cvS k hk) (by rw [lv_cv]; decide) _ l)
    iframe Hf HO; iapply (ctx_lev m K); iexact Hc
  iintro %u ⟨⟨H1, H2⟩, Hz, HO⟩
  iframe H1 HO Hz; iexists X; iexact H2

section Own
variable (off : Fin 2 → ℕ) (ho : ∀ a, off a + S4096x512.size a ≤ S4096x8192.size a)

theorem ownStep0_rule (l : List (Fin 3 × Fin 4)) :
    iprop(ctx m K ∗ ldFl m c k hk off ho ∗ xPts m c ∗ ow c (owedL c l) ∗ loFree (F := F) c k hk ∗ anyOf (F := F) c (oTile o hoo))
      ⊢ (WP c (ownStep0 k hk off ho o hoo) fun _ =>
          iprop(ldFree m c k hk ∗ xPts m c ∗ ow c (owedL c l) ∗ loFl c k hk o hoo (tile32 (xv m c) (wv m c off ho))) : sProp 𝕄) := by
  unfold ownStep0 loFree
  iintro ⟨#Hc, Hfl, Hx, HO, ⟨Hs, Hz⟩, Ho⟩
  iapply (use (comp32_rule m K c k hk off ho l)) $$ [Hfl Hx HO]
  · iframe Hfl Hx HO; iexact Hc
  iintro %p ⟨%hp, Hfr, Hx, HO⟩
  subst hp
  iapply (use' (st32_rule c k hk (tile32 (xv m c) (wv m c off ho)))) $$ Hs
  iintro Hs
  iapply (wp_wand frame _ _) $$ [Hs Ho Hz]
  · iapply (loStart_rule c k hk o hoo)
    iframe Hs Ho; iexact Hz
  iintro %u Hf
  iframe Hfr Hx HO; iexact Hf

theorem ownStep_rule (l : List (Fin 3 × Fin 4)) (o' : Fin 2 → ℕ) (hoo' : ∀ a, o' a + S1024x512.size a ≤ S4096x2048.size a) :
    iprop(ctx m K ∗ ldFl m c k hk off ho ∗ xPts m c ∗ ow c (owedL c l) ∗ loFl c k hk o' hoo' X ∗ anyOf (F := F) c (oTile o hoo))
      ⊢ (WP c (ownStep k hk off ho o hoo o' hoo') fun _ =>
          iprop(ldFree m c k hk ∗ xPts m c ∗ ow c (owedL c l) ∗ loFl c k hk o hoo (tile32 (xv m c) (wv m c off ho)) ∗ ownsTc c (oTile o' hoo') fullShare X) : sProp 𝕄) := by
  unfold ownStep
  iintro ⟨#Hc, Hfl, Hx, HO, Hs, Ho⟩
  iapply (use (comp32_rule m K c k hk off ho l)) $$ [Hfl Hx HO]
  · iframe Hfl Hx HO; iexact Hc
  iintro %p ⟨%hp, Hfr, Hx, HO⟩
  subst hp
  iapply (use' (loWait_rule m K c k hk o' hoo' X l)) $$ [Hs HO]
  · iframe Hs HO; iexact Hc
  unfold loFree
  iintro ⟨Hr, ⟨Hs, Hz⟩, HO⟩
  iapply (use' (st32_rule c k hk (tile32 (xv m c) (wv m c off ho)))) $$ Hs
  iintro Hs
  iapply (wp_wand frame _ _) $$ [Hs Ho Hz]
  · iapply (loStart_rule c k hk o hoo)
    iframe Hs Ho; iexact Hz
  iintro %u Hf
  iframe Hfr Hx HO Hf; iexact Hr
end Own

/-- What device `c` makes of the tile that landed in `(a, b)`. -/
def gotTile (a : Fin 3) (b : Fin 4) : FVec F S1024x512 .f32 := extf .f32 (sentTile m (src c a) a b) bitsLt_bf16_f32

variable (a : Fin 3) (b : Fin 4)

theorem take0_rule :
    iprop(ctx m K ∗ recvTok (F := F) c a b ∗ ow c (owedL c []) ∗ cvFree (F := F) c k hk ∗ anyOf (F := F) c (oTile o hoo))
      ⊢ (WP c (take0 a.1 b.1 a.2 b.2 k hk o hoo) fun _ =>
          iprop(ow c (owedL c []) ∗ cvFl c k hk o hoo (gotTile m c a b) ∗ anyOf (F := F) c (rvF a b) ∗ zeroR (F := F) c a b) : sProp 𝕄) := by
  unfold take0 cvFree gotTile
  iintro ⟨#Hc, Ht, HO, ⟨Hs, Hz⟩, Ho⟩
  iapply (use' (recvWait_rule m K c a b 0 (Nat.succ_pos 1))) $$ [Ht HO]
  · iframe Ht HO; iexact Hc
  iintro ⟨Hr, Hzr, HO⟩
  iapply (use' (conv_rule c k hk a b (sentTile m (src c a) a b))) $$ [Hr Hs]
  · iframe Hr; iexact Hs
  iintro ⟨Hr, Hs⟩
  iapply (wp_wand frame _ _) $$ [Hs Ho Hz]
  · iapply (cvStart_rule c k hk o hoo)
    iframe Hs Ho; iexact Hz
  iintro %u Hf
  iframe HO Hf Hzr; unfold anyOf; iexists (sentTile m (src c a) a b); iexact Hr

theorem take_rule (o' : Fin 2 → ℕ) (hoo' : ∀ a, o' a + S1024x512.size a ≤ S4096x2048.size a) :
    iprop(ctx m K ∗ recvTok (F := F) c a b ∗ ow c (owedL c []) ∗ cvFl c k hk o' hoo' X ∗ anyOf (F := F) c (oTile o hoo))
      ⊢ (WP c (take a.1 b.1 a.2 b.2 k hk o' hoo' o hoo) fun _ =>
          iprop(ow c (owedL c []) ∗ cvFl c k hk o hoo (gotTile m c a b) ∗ anyOf (F := F) c (rvF a b) ∗ zeroR (F := F) c a b
            ∗ ownsTc c (oTile o' hoo') fullShare X) : sProp 𝕄) := by
  unfold take gotTile
  iintro ⟨#Hc, Ht, HO, Hs, Ho⟩
  iapply (use' (recvWait_rule m K c a b 0 (Nat.succ_pos 1))) $$ [Ht HO]
  · iframe Ht HO; iexact Hc
  iintro ⟨Hr, Hzr, HO⟩
  iapply (use' (cvWait_rule m K c k hk o' hoo' X [])) $$ [Hs HO]
  · iframe Hs HO; iexact Hc
  unfold cvFree
  iintro ⟨Hres, ⟨Hs, Hz⟩, HO⟩
  iapply (use' (conv_rule c k hk a b (sentTile m (src c a) a b))) $$ [Hr Hs]
  · iframe Hr; iexact Hs
  iintro ⟨Hr, Hs⟩
  iapply (wp_wand frame _ _) $$ [Hs Ho Hz]
  · iapply (cvStart_rule c k hk o hoo)
    iframe Hs Ho; iexact Hz
  iintro %u Hf
  iframe HO Hf Hzr Hres; unfold anyOf; iexists (sentTile m (src c a) a b); iexact Hr
end Out

end Cert.K

end
-- ==== Proof.Walk.lean ====
/-
# The body, step by step

What device `c` holds when the body starts (`bodyStart`), after its sends (`bodyMid`) and when it ends (`bodyEnd`); the two
halves of the body, each by the rules of its steps in order.
-/
module

public import proofs.«01_k».proof.Proof.Comp

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The tiles of the result -/

/-- Where in the result of device `c` its own tile `t` goes; -/
def ownOff (c : Dev nD) : Fin 4 → Fin 2 → ℕ
  | 0 => k0_off2 c
  | 1 => k0_off4 c
  | 2 => k0_off6 c
  | 3 => k0_off7 c
/-- and where the tile that lands in `(a, b)`. -/
def gotOff (c : Dev nD) (a : Fin 3) : Fin 4 → Fin 2 → ℕ
  | 0 => k0_off3 c (BitVec.ofNat 32 (1 + a.1))
  | 1 => k0_off5 c (BitVec.ofNat 32 (1 + a.1))
  | 2 => k0_off8 c (BitVec.ofNat 32 (1 + a.1))
  | 3 => k0_off9 c (BitVec.ofNat 32 (1 + a.1))
theorem ownOff_inb (c : Dev nD) : ∀ (t : Fin 4) a, ownOff c t a + S1024x512.size a ≤ S4096x2048.size a
  | 0 => k0_off2_inb c
  | 1 => k0_off4_inb c
  | 2 => k0_off6_inb c
  | 3 => k0_off7_inb c
theorem gotOff_inb (c : Dev nD) (a : Fin 3) : ∀ (b : Fin 4) i, gotOff c a b i + S1024x512.size i ≤ S4096x2048.size i
  | 0 => k0_off3_inb c a
  | 1 => k0_off5_inb c a
  | 2 => k0_off8_inb c a
  | 3 => k0_off9_inb c a
abbrev ownT (c : Dev nD) (t : Fin 4) := oTile (ownOff c t) (ownOff_inb c t)
abbrev gotT (c : Dev nD) (a : Fin 3) (b : Fin 4) := oTile (gotOff c a b) (gotOff_inb c a b)

/-! ## The devices sent to -/

theorem to4 : ∀ c : Dev nD, (⟨k0_dev4 c, k0_dev4_lt c⟩ : Dev nD) = dst c 0 := by decide +kernel
theorem to5 : ∀ c : Dev nD, (⟨k0_dev5 c, k0_dev5_lt c⟩ : Dev nD) = dst c 2 := by decide +kernel
theorem to6 : ∀ c : Dev nD, (⟨k0_dev6 c, k0_dev6_lt c⟩ : Dev nD) = dst c 1 := by decide +kernel
theorem to7 : ∀ c : Dev nD, (⟨k0_dev7 c, k0_dev7_lt c⟩ : Dev nD) = dst c 0 := by decide +kernel
theorem to8 : ∀ c : Dev nD, (⟨k0_dev8 c, k0_dev8_lt c⟩ : Dev nD) = dst c 2 := by decide +kernel
theorem to9 : ∀ c : Dev nD, (⟨k0_dev9 c, k0_dev9_lt c⟩ : Dev nD) = dst c 1 := by decide +kernel
theorem to10 : ∀ c : Dev nD, (⟨k0_dev10 c, k0_dev10_lt c⟩ : Dev nD) = dst c 0 := by decide +kernel
theorem to11 : ∀ c : Dev nD, (⟨k0_dev11 c, k0_dev11_lt c⟩ : Dev nD) = dst c 2 := by decide +kernel
theorem to12 : ∀ c : Dev nD, (⟨k0_dev12 c, k0_dev12_lt c⟩ : Dev nD) = dst c 1 := by decide +kernel
theorem to13 : ∀ c : Dev nD, (⟨k0_dev13 c, k0_dev13_lt c⟩ : Dev nD) = dst c 0 := by decide +kernel
theorem to14 : ∀ c : Dev nD, (⟨k0_dev14 c, k0_dev14_lt c⟩ : Dev nD) = dst c 2 := by decide +kernel
theorem to15 : ∀ c : Dev nD, (⟨k0_dev15 c, k0_dev15_lt c⟩ : Dev nD) = dst c 1 := by decide +kernel

variable (m : (ℓ : Loc nD τ sig) → Buf (Elt F) ℓ) (K : Dev nD × CI → ℕ) (c : Dev nD)

/-- The own tile `t`. -/
def ownTile (t : Fin 4) : FVec F S1024x512 .f32 :=
  tile32 (xv m c) (wv m c (k0_off1 c 0#32 (BitVec.ofNat 32 (512 * t.1))) (k0_off1_inb c 0 t))

/-! ## What is held -/

/-- A pair of slots, both free. -/
def ldFree2 : sProp 𝕄 := iprop(ldFree m c 0 (by decide) ∗ ldFree m c 1 (by decide))
def s16Free2 : sProp 𝕄 := iprop(anyOf (F := F) c (s16 0 (by decide)) ∗ anyOf (F := F) c (s16 1 (by decide)))
def outFree : sProp 𝕄 := iprop(loFree (F := F) c 0 (by decide) ∗ loFree (F := F) c 1 (by decide) ∗ cvFree (F := F) c 0 (by decide) ∗ cvFree (F := F) c 1 (by decide))
/-- The result's tiles, not yet written, written. -/
def resFree : sProp 𝕄 := iprop((bigSep Finset.univ fun t : Fin 4 => anyOf (F := F) c (ownT c t))
  ∗ bigSep Finset.univ fun a : Fin 3 => bigSep Finset.univ fun b : Fin 4 => anyOf (F := F) c (gotT c a b))
def resDone : sProp 𝕄 := iprop((bigSep Finset.univ fun t : Fin 4 => ownsTc c (ownT c t) fullShare (ownTile m c t))
  ∗ bigSep Finset.univ fun a : Fin 3 => bigSep Finset.univ fun b : Fin 4 => ownsTc c (gotT c a b) fullShare (gotTile m c a b))
def each (Φ : Fin 3 → Fin 4 → sProp 𝕄) : sProp 𝕄 := bigSep Finset.univ fun a : Fin 3 => bigSep Finset.univ fun b : Fin 4 => Φ a b
theorem each_eq (Φ : Fin 3 → Fin 4 → sProp 𝕄) : each Φ = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3)) := by
  unfold each; rw [sep3, sep4, sep4, sep4]
/-- What the handshake takes. -/
def hsTok : sProp 𝕄 := iprop((bigSep Finset.univ fun a : Fin 3 => dutyTok ER (barCell (src c a)) 0 a) ∗ (bigSep Finset.univ fun a : Fin 3 => landing (F := F) c a)
        ∗ cred (tallyAt (barCell c) () 3) ∗ atPos ER (barCell c) 0 ∅ 0)

def sendStart : sProp 𝕄 := iprop(ow c (O₀ c) ∗ hsTok (F := F) c ∗ each (sendTok (F := F) c) ∗ ldFree2 m c ∗ xPts m c ∗ s16Free2 (F := F) c)
def sendEnd : sProp 𝕄 :=
  iprop(ow c (owedL c []) ∗ zero c (.reg barS)
    ∗ (zeroS c 0 0 ∗ zeroS c 0 1 ∗ zeroS c 0 2 ∗ zeroS c 0 3 ∗ zeroS c 1 0 ∗ zeroS c 1 1 ∗ zeroS c 1 2 ∗ zeroS c 2 0 ∗ zeroS c 2 1 ∗ zeroS c 2 2)
    ∗ ldFl m c 0 (by decide) (k0_off1 c 0#32 0#32) (k0_off1_inb c 0 0) ∗ ldFree m c 1 (by decide) ∗ xPts m c ∗ sent (F := F) c 2 3 ∗ sent (F := F) c 1 3)
def tailStart : sProp 𝕄 := iprop(sendEnd m c ∗ each (recvTok (F := F) c) ∗ outFree (F := F) c ∗ resFree (F := F) c)
def bodyStart : sProp 𝕄 := iprop(sendStart m c ∗ each (recvTok (F := F) c) ∗ outFree (F := F) c ∗ resFree (F := F) c)
def bodyEnd : sProp 𝕄 :=
  iprop(ow c (owedL c []) ∗ zero c (.reg barS) ∗ each (zeroS (F := F) c) ∗ each (zeroR (F := F) c) ∗ (each fun a b => anyOf (F := F) c (rvF a b))
    ∗ ldFree2 m c ∗ xPts m c ∗ s16Free2 (F := F) c ∗ outFree (F := F) c ∗ resDone m c)

set_option maxHeartbeats 4000000 in
theorem tail_rule : iprop(ctx m K ∗ tailStart m c) ⊢ (WP c (tailSteps c) fun _ => bodyEnd m c : sProp 𝕄) := by
  unfold tailStart sendEnd bodyEnd outFree resFree resDone ldFree2 s16Free2
  rw [each_eq, each_eq, each_eq, each_eq]
  simp only [sep3, sep4]
  unfold tailSteps
  iintro ⟨#Hc, ⟨HO, Hbar, ⟨Z00, Z01, Z02, Z03, Z10, Z11, Z12, Z20, Z21, Z22⟩, L0, L1, Hx, S0, S1⟩,
    ⟨⟨R00, R01, R02, R03⟩, ⟨R10, R11, R12, R13⟩, ⟨R20, R21, R22, R23⟩⟩, ⟨O0, O1, C0, C1⟩,
    ⟨⟨T0, T1, T2, T3⟩, ⟨G00, G01, G02, G03⟩, ⟨G10, G11, G12, G13⟩, ⟨G20, G21, G22, G23⟩⟩⟩
  iapply (use' (ldStart_rule m c _ _ (k0_off1 c 0#32 512#32) (k0_off1_inb c 0 1))) $$ L1
  iintro L1
  iapply (use' (ownStep0_rule m K c 0 (by decide) (ownOff c 0) (ownOff_inb c 0) (k0_off1 c 0#32 0#32) (k0_off1_inb c 0 0) [])) $$ [L0 Hx HO O0 T0]
  · isplitr; · iexact Hc
    isplitl [L0]; · iexact L0
    isplitl [Hx]; · iexact Hx
    isplitl [HO]; · iexact HO
    isplitl [O0]; · iexact O0
    iexact T0
  iintro ⟨L0, Hx, HO, O0⟩
  iapply (use' (take0_rule m K c 0 (by decide) (gotOff c 0 0) (gotOff_inb c 0 0) 0 0)) $$ [R00 HO C0 G00]
  · isplitr; · iexact Hc
    isplitl [R00]; · iexact R00
    isplitl [HO]; · iexact HO
    isplitl [C0]; · iexact C0
    iexact G00
  iintro ⟨HO, C0, V00, Y00⟩
  iapply (use' (take0_rule m K c 1 (by decide) (gotOff c 2 0) (gotOff_inb c 2 0) 2 0)) $$ [R20 HO C1 G20]
  · isplitr; · iexact Hc
    isplitl [R20]; · iexact R20
    isplitl [HO]; · iexact HO
    isplitl [C1]; · iexact C1
    iexact G20
  iintro ⟨HO, C1, V20, Y20⟩
  iapply (use' (ldStart_rule m c _ _ (k0_off1 c 0#32 1024#32) (k0_off1_inb c 0 2))) $$ L0
  iintro L0
  iapply (use' (ownStep0_rule m K c 1 (by decide) (ownOff c 1) (ownOff_inb c 1) (k0_off1 c 0#32 512#32) (k0_off1_inb c 0 1) [])) $$ [L1 Hx HO O1 T1]
  · isplitr; · iexact Hc
    isplitl [L1]; · iexact L1
    isplitl [Hx]; · iexact Hx
    isplitl [HO]; · iexact HO
    isplitl [O1]; · iexact O1
    iexact T1
  iintro ⟨L1, Hx, HO, O1⟩
  iapply (use' (take_rule m K c 0 (by decide) (gotOff c 1 0) (gotOff_inb c 1 0) (gotTile m c 0 0) 1 0 (gotOff c 0 0) (gotOff_inb c 0 0))) $$ [R10 HO C0 G10]
  · isplitr; · iexact Hc
    isplitl [R10]; · iexact R10
    isplitl [HO]; · iexact HO
    isplitl [C0]; · iexact C0
    iexact G10
  iintro ⟨HO, C0, V10, Y10, D00⟩
  iapply (use' (take_rule m K c 1 (by decide) (gotOff c 0 1) (gotOff_inb c 0 1) (gotTile m c 2 0) 0 1 (gotOff c 2 0) (gotOff_inb c 2 0))) $$ [R01 HO C1 G01]
  · isplitr; · iexact Hc
    isplitl [R01]; · iexact R01
    isplitl [HO]; · iexact HO
    isplitl [C1]; · iexact C1
    iexact G01
  iintro ⟨HO, C1, V01, Y01, D20⟩
  iapply (use' (ldStart_rule m c _ _ (k0_off1 c 0#32 1536#32) (k0_off1_inb c 0 3))) $$ L1
  iintro L1
  iapply (use' (ownStep_rule m K c 0 (by decide) (ownOff c 2) (ownOff_inb c 2) (ownTile m c 0) (k0_off1 c 0#32 1024#32) (k0_off1_inb c 0 2) [] (ownOff c 0) (ownOff_inb c 0))) $$ [L0 Hx HO O0 T2]
  · isplitr; · iexact Hc
    isplitl [L0]; · iexact L0
    isplitl [Hx]; · iexact Hx
    isplitl [HO]; · iexact HO
    isplitl [O0]; · iexact O0
    iexact T2
  iintro ⟨L0, Hx, HO, O0, E0⟩
  iapply (use' (take_rule m K c 0 (by decide) (gotOff c 2 1) (gotOff_inb c 2 1) (gotTile m c 1 0) 2 1 (gotOff c 1 0) (gotOff_inb c 1 0))) $$ [R21 HO C0 G21]
  · isplitr; · iexact Hc
    isplitl [R21]; · iexact R21
    isplitl [HO]; · iexact HO
    isplitl [C0]; · iexact C0
    iexact G21
  iintro ⟨HO, C0, V21, Y21, D10⟩
  iapply (use' (take_rule m K c 1 (by decide) (gotOff c 1 1) (gotOff_inb c 1 1) (gotTile m c 0 1) 1 1 (gotOff c 0 1) (gotOff_inb c 0 1))) $$ [R11 HO C1 G11]
  · isplitr; · iexact Hc
    isplitl [R11]; · iexact R11
    isplitl [HO]; · iexact HO
    isplitl [C1]; · iexact C1
    iexact G11
  iintro ⟨HO, C1, V11, Y11, D01⟩
  iapply (use' (ownStep_rule m K c 1 (by decide) (ownOff c 3) (ownOff_inb c 3) (ownTile m c 1) (k0_off1 c 0#32 1536#32) (k0_off1_inb c 0 3) [] (ownOff c 1) (ownOff_inb c 1))) $$ [L1 Hx HO O1 T3]
  · isplitr; · iexact Hc
    isplitl [L1]; · iexact L1
    isplitl [Hx]; · iexact Hx
    isplitl [HO]; · iexact HO
    isplitl [O1]; · iexact O1
    iexact T3
  iintro ⟨L1, Hx, HO, O1, E1⟩
  iapply (use' (take_rule m K c 0 (by decide) (gotOff c 0 2) (gotOff_inb c 0 2) (gotTile m c 2 1) 0 2 (gotOff c 2 1) (gotOff_inb c 2 1))) $$ [R02 HO C0 G02]
  · isplitr; · iexact Hc
    isplitl [R02]; · iexact R02
    isplitl [HO]; · iexact HO
    isplitl [C0]; · iexact C0
    iexact G02
  iintro ⟨HO, C0, V02, Y02, D21⟩
  iapply (use' (take_rule m K c 1 (by decide) (gotOff c 2 2) (gotOff_inb c 2 2) (gotTile m c 1 1) 2 2 (gotOff c 1 1) (gotOff_inb c 1 1))) $$ [R22 HO C1 G22]
  · isplitr; · iexact Hc
    isplitl [R22]; · iexact R22
    isplitl [HO]; · iexact HO
    isplitl [C1]; · iexact C1
    iexact G22
  iintro ⟨HO, C1, V22, Y22, D11⟩
  iapply (use' (sendWait_rule m K c 2 3 0 (by decide) rfl [])) $$ [S0 HO]
  · isplitr; · iexact Hc
    isplitl [S0]; · iexact S0
    iexact HO
  iintro ⟨S0, Z23, HO⟩
  iapply (use' (sendWait_rule m K c 1 3 1 (by decide) rfl [])) $$ [S1 HO]
  · isplitr; · iexact Hc
    isplitl [S1]; · iexact S1
    iexact HO
  iintro ⟨S1, Z13, HO⟩
  iapply (use' (loWait_rule m K c 0 (by decide) (ownOff c 2) (ownOff_inb c 2) (ownTile m c 2) [])) $$ [O0 HO]
  · isplitr; · iexact Hc
    isplitl [O0]; · iexact O0
    iexact HO
  iintro ⟨E2, O0, HO⟩
  iapply (use' (loWait_rule m K c 1 (by decide) (ownOff c 3) (ownOff_inb c 3) (ownTile m c 3) [])) $$ [O1 HO]
  · isplitr; · iexact Hc
    isplitl [O1]; · iexact O1
    iexact HO
  iintro ⟨E3, O1, HO⟩
  iapply (use' (take_rule m K c 0 (by decide) (gotOff c 1 2) (gotOff_inb c 1 2) (gotTile m c 0 2) 1 2 (gotOff c 0 2) (gotOff_inb c 0 2))) $$ [R12 HO C0 G12]
  · isplitr; · iexact Hc
    isplitl [R12]; · iexact R12
    isplitl [HO]; · iexact HO
    isplitl [C0]; · iexact C0
    iexact G12
  iintro ⟨HO, C0, V12, Y12, D02⟩
  iapply (use' (take_rule m K c 1 (by decide) (gotOff c 0 3) (gotOff_inb c 0 3) (gotTile m c 2 2) 0 3 (gotOff c 2 2) (gotOff_inb c 2 2))) $$ [R03 HO C1 G03]
  · isplitr; · iexact Hc
    isplitl [R03]; · iexact R03
    isplitl [HO]; · iexact HO
    isplitl [C1]; · iexact C1
    iexact G03
  iintro ⟨HO, C1, V03, Y03, D22⟩
  iapply (use' (take_rule m K c 0 (by decide) (gotOff c 2 3) (gotOff_inb c 2 3) (gotTile m c 1 2) 2 3 (gotOff c 1 2) (gotOff_inb c 1 2))) $$ [R23 HO C0 G23]
  · isplitr; · iexact Hc
    isplitl [R23]; · iexact R23
    isplitl [HO]; · iexact HO
    isplitl [C0]; · iexact C0
    iexact G23
  iintro ⟨HO, C0, V23, Y23, D12⟩
  iapply (use' (take_rule m K c 1 (by decide) (gotOff c 1 3) (gotOff_inb c 1 3) (gotTile m c 0 3) 1 3 (gotOff c 0 3) (gotOff_inb c 0 3))) $$ [R13 HO C1 G13]
  · isplitr; · iexact Hc
    isplitl [R13]; · iexact R13
    isplitl [HO]; · iexact HO
    isplitl [C1]; · iexact C1
    iexact G13
  iintro ⟨HO, C1, V13, Y13, D03⟩
  iapply (use' (cvWait_rule m K c 0 (by decide) (gotOff c 2 3) (gotOff_inb c 2 3) (gotTile m c 2 3) [])) $$ [C0 HO]
  · isplitr; · iexact Hc
    isplitl [C0]; · iexact C0
    iexact HO
  iintro ⟨D23, C0, HO⟩
  iapply (wp_wand frame _ _) $$ [C1 HO]
  · iapply (cvWait_rule m K c 1 (by decide) (gotOff c 1 3) (gotOff_inb c 1 3) (gotTile m c 1 3) [])
    isplitr; · iexact Hc
    isplitl [C1]; · iexact C1
    iexact HO
  iintro %u ⟨D13, C1, HO⟩
  isplitl [HO]
  · iexact HO
  isplitl [Hbar]
  · iexact Hbar
  isplitl [Z00 Z01 Z02 Z03 Z10 Z11 Z12 Z13 Z20 Z21 Z22 Z23]
  · isplitl [Z00 Z01 Z02 Z03]
    · isplitl [Z00]
      · iexact Z00
      isplitl [Z01]
      · iexact Z01
      isplitl [Z02]
      · iexact Z02
      iexact Z03
    isplitl [Z10 Z11 Z12 Z13]
    · isplitl [Z10]
      · iexact Z10
      isplitl [Z11]
      · iexact Z11
      isplitl [Z12]
      · iexact Z12
      iexact Z13
    isplitl [Z20]
    · iexact Z20
    isplitl [Z21]
    · iexact Z21
    isplitl [Z22]
    · iexact Z22
    iexact Z23
  isplitl [Y00 Y01 Y02 Y03 Y10 Y11 Y12 Y13 Y20 Y21 Y22 Y23]
  · isplitl [Y00 Y01 Y02 Y03]
    · isplitl [Y00]
      · iexact Y00
      isplitl [Y01]
      · iexact Y01
      isplitl [Y02]
      · iexact Y02
      iexact Y03
    isplitl [Y10 Y11 Y12 Y13]
    · isplitl [Y10]
      · iexact Y10
      isplitl [Y11]
      · iexact Y11
      isplitl [Y12]
      · iexact Y12
      iexact Y13
    isplitl [Y20]
    · iexact Y20
    isplitl [Y21]
    · iexact Y21
    isplitl [Y22]
    · iexact Y22
    iexact Y23
  isplitl [V00 V01 V02 V03 V10 V11 V12 V13 V20 V21 V22 V23]
  · isplitl [V00 V01 V02 V03]
    · isplitl [V00]
      · iexact V00
      isplitl [V01]
      · iexact V01
      isplitl [V02]
      · iexact V02
      iexact V03
    isplitl [V10 V11 V12 V13]
    · isplitl [V10]
      · iexact V10
      isplitl [V11]
      · iexact V11
      isplitl [V12]
      · iexact V12
      iexact V13
    isplitl [V20]
    · iexact V20
    isplitl [V21]
    · iexact V21
    isplitl [V22]
    · iexact V22
    iexact V23
  isplitl [L0 L1]
  · isplitl [L0]
    · iexact L0
    iexact L1
  isplitl [Hx]
  · iexact Hx
  isplitl [S0 S1]
  · isplitl [S0]
    · iexact S0
    iexact S1
  isplitl [O0 O1 C0 C1]
  · isplitl [O0]
    · iexact O0
    isplitl [O1]
    · iexact O1
    isplitl [C0]
    · iexact C0
    iexact C1
  isplitl [E0 E1 E2 E3]
  · isplitl [E0]
    · iexact E0
    isplitl [E1]
    · iexact E1
    isplitl [E2]
    · iexact E2
    iexact E3
  isplitl [D00 D01 D02 D03]
  · isplitl [D00]
    · iexact D00
    isplitl [D01]
    · iexact D01
    isplitl [D02]
    · iexact D02
    iexact D03
  isplitl [D10 D11 D12 D13]
  · isplitl [D10]
    · iexact D10
    isplitl [D11]
    · iexact D11
    isplitl [D12]
    · iexact D12
    iexact D13
  isplitl [D20]
  · iexact D20
  isplitl [D21]
  · iexact D21
  isplitl [D22]
  · iexact D22
  iexact D23

set_option maxHeartbeats 4000000 in
theorem body_rule : iprop(ctx m K ∗ bodyStart m c) ⊢ (WP c (steps c) fun _ => bodyEnd m c : sProp 𝕄) := by
  unfold bodyStart sendStart ldFree2 s16Free2 hsTok
  rw [each_eq (sendTok (F := F) c)]
  have hA : (bigSep Finset.univ fun a : Fin 3 => landing (F := F) (dst c a) a) ⊢ _ := Entails.of_eq (each_eq fun a b => anyOf (F := F) (dst c a) (rvF a b))
  unfold steps
  iintro ⟨#Hc, ⟨HO, ⟨Hd, Hl, Hcr, Hat⟩, ⟨⟨T00, T01, T02, T03⟩, ⟨T10, T11, T12, T13⟩, ⟨T20, T21, T22, T23⟩⟩, ⟨L0, L1⟩, Hx, S0, S1⟩, Hrest⟩
  iapply (use' (handshake_rule m K c)) $$ [HO Hd Hl Hcr Hat]
  · isplitr; · iexact Hc
    isplitl [HO]; · iexact HO
    isplitl [Hd]; · iexact Hd
    isplitl [Hl]; · iexact Hl
    isplitl [Hcr]; · iexact Hcr
    iexact Hat
  iintro ⟨HO, Hbar, Hl⟩
  ihave Hl := hA $$ Hl
  icases Hl with ⟨⟨A00, A01, A02, A03⟩, ⟨A10, A11, A12, A13⟩, ⟨A20, A21, A22, A23⟩⟩
  iapply (use' (ldStart_rule m c _ _ (k0_off1 c 1#32 0#32) (k0_off1_inb c 1 0))) $$ L0
  iintro L0
  iapply (use' (remStep0_rule m K c 0 (by decide) 1 (by decide) (k0_off1 c 1#32 0#32) (k0_off1_inb c 1 0) (k0_off1 c 3#32 0#32) (k0_off1_inb c 3 0) _ 0 0 (to4 c) rfl rfl [(2, 0), (1, 0), (0, 1), (2, 1), (1, 1), (0, 2), (2, 2), (1, 2), (0, 3), (2, 3), (1, 3)])) $$ [L0 L1 Hx HO S0 T00 A00]
  · isplitr; · iexact Hc
    isplitl [L0]; · iexact L0
    isplitl [L1]; · iexact L1
    isplitl [Hx]; · iexact Hx
    isplitl [HO]; · iexact HO
    isplitl [S0]; · iexact S0
    isplitl [T00]; · iexact T00
    iexact A00
  iintro ⟨L0, L1, Hx, HO, S0⟩
  iapply (use' (remStep0_rule m K c 1 (by decide) 0 (by decide) (k0_off1 c 3#32 0#32) (k0_off1_inb c 3 0) (k0_off1 c 2#32 0#32) (k0_off1_inb c 2 0) _ 2 0 (to5 c) rfl rfl [(1, 0), (0, 1), (2, 1), (1, 1), (0, 2), (2, 2), (1, 2), (0, 3), (2, 3), (1, 3)])) $$ [L1 L0 Hx HO S1 T20 A20]
  · isplitr; · iexact Hc
    isplitl [L1]; · iexact L1
    isplitl [L0]; · iexact L0
    isplitl [Hx]; · iexact Hx
    isplitl [HO]; · iexact HO
    isplitl [S1]; · iexact S1
    isplitl [T20]; · iexact T20
    iexact A20
  iintro ⟨L1, L0, Hx, HO, S1⟩
  iapply (use' (remStep_rule m K c 0 (by decide) 1 (by decide) (k0_off1 c 2#32 0#32) (k0_off1_inb c 2 0) (k0_off1 c 1#32 512#32) (k0_off1_inb c 1 1) _ 1 0 (to6 c) rfl rfl [(0, 1), (2, 1), (1, 1), (0, 2), (2, 2), (1, 2), (0, 3), (2, 3), (1, 3)] 0 0 rfl)) $$ [L0 L1 Hx HO S0 T10 A10]
  · isplitr; · iexact Hc
    isplitl [L0]; · iexact L0
    isplitl [L1]; · iexact L1
    isplitl [Hx]; · iexact Hx
    isplitl [HO]; · iexact HO
    isplitl [S0]; · iexact S0
    isplitl [T10]; · iexact T10
    iexact A10
  iintro ⟨L0, L1, Hx, HO, S0, Z00⟩
  iapply (use' (remStep_rule m K c 1 (by decide) 0 (by decide) (k0_off1 c 1#32 512#32) (k0_off1_inb c 1 1) (k0_off1 c 3#32 512#32) (k0_off1_inb c 3 1) _ 0 1 (to7 c) rfl rfl [(2, 1), (1, 1), (0, 2), (2, 2), (1, 2), (0, 3), (2, 3), (1, 3)] 2 0 rfl)) $$ [L1 L0 Hx HO S1 T01 A01]
  · isplitr; · iexact Hc
    isplitl [L1]; · iexact L1
    isplitl [L0]; · iexact L0
    isplitl [Hx]; · iexact Hx
    isplitl [HO]; · iexact HO
    isplitl [S1]; · iexact S1
    isplitl [T01]; · iexact T01
    iexact A01
  iintro ⟨L1, L0, Hx, HO, S1, Z20⟩
  iapply (use' (remStep_rule m K c 0 (by decide) 1 (by decide) (k0_off1 c 3#32 512#32) (k0_off1_inb c 3 1) (k0_off1 c 2#32 512#32) (k0_off1_inb c 2 1) _ 2 1 (to8 c) rfl rfl [(1, 1), (0, 2), (2, 2), (1, 2), (0, 3), (2, 3), (1, 3)] 1 0 rfl)) $$ [L0 L1 Hx HO S0 T21 A21]
  · isplitr; · iexact Hc
    isplitl [L0]; · iexact L0
    isplitl [L1]; · iexact L1
    isplitl [Hx]; · iexact Hx
    isplitl [HO]; · iexact HO
    isplitl [S0]; · iexact S0
    isplitl [T21]; · iexact T21
    iexact A21
  iintro ⟨L0, L1, Hx, HO, S0, Z10⟩
  iapply (use' (remStep_rule m K c 1 (by decide) 0 (by decide) (k0_off1 c 2#32 512#32) (k0_off1_inb c 2 1) (k0_off1 c 1#32 1024#32) (k0_off1_inb c 1 2) _ 1 1 (to9 c) rfl rfl [(0, 2), (2, 2), (1, 2), (0, 3), (2, 3), (1, 3)] 0 1 rfl)) $$ [L1 L0 Hx HO S1 T11 A11]
  · isplitr; · iexact Hc
    isplitl [L1]; · iexact L1
    isplitl [L0]; · iexact L0
    isplitl [Hx]; · iexact Hx
    isplitl [HO]; · iexact HO
    isplitl [S1]; · iexact S1
    isplitl [T11]; · iexact T11
    iexact A11
  iintro ⟨L1, L0, Hx, HO, S1, Z01⟩
  iapply (use' (remStep_rule m K c 0 (by decide) 1 (by decide) (k0_off1 c 1#32 1024#32) (k0_off1_inb c 1 2) (k0_off1 c 3#32 1024#32) (k0_off1_inb c 3 2) _ 0 2 (to10 c) rfl rfl [(2, 2), (1, 2), (0, 3), (2, 3), (1, 3)] 2 1 rfl)) $$ [L0 L1 Hx HO S0 T02 A02]
  · isplitr; · iexact Hc
    isplitl [L0]; · iexact L0
    isplitl [L1]; · iexact L1
    isplitl [Hx]; · iexact Hx
    isplitl [HO]; · iexact HO
    isplitl [S0]; · iexact S0
    isplitl [T02]; · iexact T02
    iexact A02
  iintro ⟨L0, L1, Hx, HO, S0, Z21⟩
  iapply (use' (remStep_rule m K c 1 (by decide) 0 (by decide) (k0_off1 c 3#32 1024#32) (k0_off1_inb c 3 2) (k0_off1 c 2#32 1024#32) (k0_off1_inb c 2 2) _ 2 2 (to11 c) rfl rfl [(1, 2), (0, 3), (2, 3), (1, 3)] 1 1 rfl)) $$ [L1 L0 Hx HO S1 T22 A22]
  · isplitr; · iexact Hc
    isplitl [L1]; · iexact L1
    isplitl [L0]; · iexact L0
    isplitl [Hx]; · iexact Hx
    isplitl [HO]; · iexact HO
    isplitl [S1]; · iexact S1
    isplitl [T22]; · iexact T22
    iexact A22
  iintro ⟨L1, L0, Hx, HO, S1, Z11⟩
  iapply (use' (remStep_rule m K c 0 (by decide) 1 (by decide) (k0_off1 c 2#32 1024#32) (k0_off1_inb c 2 2) (k0_off1 c 1#32 1536#32) (k0_off1_inb c 1 3) _ 1 2 (to12 c) rfl rfl [(0, 3), (2, 3), (1, 3)] 0 2 rfl)) $$ [L0 L1 Hx HO S0 T12 A12]
  · isplitr; · iexact Hc
    isplitl [L0]; · iexact L0
    isplitl [L1]; · iexact L1
    isplitl [Hx]; · iexact Hx
    isplitl [HO]; · iexact HO
    isplitl [S0]; · iexact S0
    isplitl [T12]; · iexact T12
    iexact A12
  iintro ⟨L0, L1, Hx, HO, S0, Z02⟩
  iapply (use' (remStep_rule m K c 1 (by decide) 0 (by decide) (k0_off1 c 1#32 1536#32) (k0_off1_inb c 1 3) (k0_off1 c 3#32 1536#32) (k0_off1_inb c 3 3) _ 0 3 (to13 c) rfl rfl [(2, 3), (1, 3)] 2 2 rfl)) $$ [L1 L0 Hx HO S1 T03 A03]
  · isplitr; · iexact Hc
    isplitl [L1]; · iexact L1
    isplitl [L0]; · iexact L0
    isplitl [Hx]; · iexact Hx
    isplitl [HO]; · iexact HO
    isplitl [S1]; · iexact S1
    isplitl [T03]; · iexact T03
    iexact A03
  iintro ⟨L1, L0, Hx, HO, S1, Z22⟩
  iapply (use' (remStep_rule m K c 0 (by decide) 1 (by decide) (k0_off1 c 3#32 1536#32) (k0_off1_inb c 3 3) (k0_off1 c 2#32 1536#32) (k0_off1_inb c 2 3) _ 2 3 (to14 c) rfl rfl [(1, 3)] 1 2 rfl)) $$ [L0 L1 Hx HO S0 T23 A23]
  · isplitr; · iexact Hc
    isplitl [L0]; · iexact L0
    isplitl [L1]; · iexact L1
    isplitl [Hx]; · iexact Hx
    isplitl [HO]; · iexact HO
    isplitl [S0]; · iexact S0
    isplitl [T23]; · iexact T23
    iexact A23
  iintro ⟨L0, L1, Hx, HO, S0, Z12⟩
  iapply (use' (remStep_rule m K c 1 (by decide) 0 (by decide) (k0_off1 c 2#32 1536#32) (k0_off1_inb c 2 3) (k0_off1 c 0#32 0#32) (k0_off1_inb c 0 0) _ 1 3 (to15 c) rfl rfl [] 0 3 rfl)) $$ [L1 L0 Hx HO S1 T13 A13]
  · isplitr; · iexact Hc
    isplitl [L1]; · iexact L1
    isplitl [L0]; · iexact L0
    isplitl [Hx]; · iexact Hx
    isplitl [HO]; · iexact HO
    isplitl [S1]; · iexact S1
    isplitl [T13]; · iexact T13
    iexact A13
  iintro ⟨L1, L0, Hx, HO, S1, Z03⟩
  iapply (tail_rule m K c)
  isplitr; · iexact Hc
  unfold tailStart sendEnd
  isplitl [HO Hbar Z00 Z01 Z02 Z03 Z10 Z11 Z12 Z20 Z21 Z22 L0 L1 Hx S0 S1]
  · isplitl [HO]
    · iexact HO
    isplitl [Hbar]
    · iexact Hbar
    isplitl [Z00 Z01 Z02 Z03 Z10 Z11 Z12 Z20 Z21 Z22]
    · isplitl [Z00]
      · iexact Z00
      isplitl [Z01]
      · iexact Z01
      isplitl [Z02]
      · iexact Z02
      isplitl [Z03]
      · iexact Z03
      isplitl [Z10]
      · iexact Z10
      isplitl [Z11]
      · iexact Z11
      isplitl [Z12]
      · iexact Z12
      isplitl [Z20]
      · iexact Z20
      isplitl [Z21]
      · iexact Z21
      iexact Z22
    isplitl [L0]
    · iexact L0
    isplitl [L1]
    · iexact L1
    isplitl [Hx]
    · iexact Hx
    isplitl [S0]
    · iexact S0
    iexact S1
  iexact Hrest

end Cert.K

end
-- ==== Proof.Buffers.lean ====
/-
# The buffers, cut into slots and tiles

A two-slot buffer, the landing buffer and the result are split into their slots and tiles when the body starts and joined when it
ends; `outF` is what the result holds in the end.
-/
module

public import proofs.«01_k».proof.Proof.Walk

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slots of a buffer -/

/-- Owning a memref at some contents is owning its elements. -/
theorem any_pts (c : Dev nD) {sp : Space} {sh : Shape} {e : EltTy} (M : Memref sig .tc sp sh e) :
    (anyOf c M : sProp 𝕄) ⊣⊢ iprop(∃ f, M.view.loc (c : Thread nD τ) ↦[M.view.set]{fullShare} f) := by
  unfold anyOf
  constructor
  · unfold ownsTc owns; iintro ⟨%X, %f, -, H⟩
    iexists f; iexact H
  · iintro ⟨%f, H⟩
    iexists _; iapply (owns_intro (c : Thread nD τ) M fullShare); iexact H

theorem any_intro (c : Dev nD) {sp : Space} {sh : Shape} {e : EltTy} (M : Memref sig .tc sp sh e) (X : sh.Idx → Elt F e) :
    (ownsTc c M fullShare X : sProp 𝕄) ⊢ anyOf c M := by
  unfold anyOf; iintro H; iexists X; iexact H

section Split
variable (c : Dev nD) (b : Ref sig .tc) {T : Type} [Fintype T] [DecidableEq T] (r : T → Rect b.ty.shape) (hr : ∀ t a, (r t).stride a = 1) {s' : Shape}
  (hq : ∀ t, (r t).shape.Squeezes s') (hd : ∀ t t', t ≠ t' → Disjoint (r t).set (r t').set)
  (hcov : (Finset.univ : Finset T).biUnion (fun t => (r t).set) = Finset.univ)

/-- Slot `t`. -/
abbrev slotM (t : T) : Memref sig .tc b.space s' b.ty.elt := ((Memref.whole b).slice (r t) (hr t)).squeeze s' (hq t)

theorem slotM_set (t : T) : (slotM b r hr hq t).view.set = (r t).set := by
  refine (View.set_reshape _ _).trans ?_
  show ((Memref.whole b).view.slice (r t)).set = _
  rw [View.set_slice]
  exact (Finset.map_eq_image _ _).trans (Finset.image_id)

include hd hcov in
theorem any_split : (iprop(∃ f : Buf (Elt F) ((c : Thread nD τ).loc b), ((c : Thread nD τ).loc b) ↦{fullShare} f) : sProp 𝕄)
    ⊢ bigSep Finset.univ fun t => anyOf c (slotM b r hr hq t) := by
  iintro ⟨%f, H⟩
  have h : ((((c : Thread nD τ).loc b) ↦{fullShare} f) : sProp 𝕄) ⊢ bigSep Finset.univ fun t => anyOf c (slotM b r hr hq t) := by
    show ((((c : Thread nD τ).loc b) ↦[(Finset.univ : Finset b.ty.shape.Idx)]{fullShare} f) : sProp 𝕄) ⊢ _
    rw [← hcov, pointsTo_biUnion _ _ fun t _ t' _ h => hd t t' h]
    refine bigSep_mono fun t _ => BIBase.Entails.trans ?_ (any_pts c (slotM b r hr hq t)).2
    iintro H; iexists f; rw [slotM_set]; iexact H
  iapply h; iexact H

include hd hcov in
theorem any_join [∀ e, Nonempty (Elt F e)] : (bigSep Finset.univ fun t => anyOf c (slotM b r hr hq t) : sProp 𝕄)
    ⊢ iprop(∃ f : Buf (Elt F) ((c : Thread nD τ).loc b), ((c : Thread nD τ).loc b) ↦{fullShare} f) := by
  have h1 : (bigSep Finset.univ fun t => anyOf c (slotM b r hr hq t) : sProp 𝕄)
      ⊢ bigSep Finset.univ fun t => iprop(∃ f : Buf (Elt F) ((c : Thread nD τ).loc b), ((c : Thread nD τ).loc b) ↦[(r t).set]{fullShare} f) :=
    bigSep_mono fun t _ => BIBase.Entails.trans (any_pts c (slotM b r hr hq t)).1 (by
      iintro ⟨%f, H⟩; iexists f; rw [slotM_set]; iexact H)
  iintro H
  ihave H := h1 $$ H
  ihave H := (BI.bigSep_exists_pi Finset.univ (fun (t : T) (f : Buf (Elt F) ((c : Thread nD τ).loc b)) =>
    (((c : Thread nD τ).loc b) ↦[(r t).set]{fullShare} f : sProp 𝕄))) $$ H
  icases H with ⟨%fs, H⟩
  ihave H := (pointsTo_biUnion_join Finset.univ (fun t => (r t).set) fs (fun _ => Classical.arbitrary _) fun t _ t' _ h => hd t t' h) $$ H
  icases H with ⟨%g, -, H⟩
  iexists g
  rw [hcov]; iexact H

end Split

/-! ## The five buffers -/

theorem disj_w (k k' : Fin 2) (h : k ≠ k') : Disjoint (wR k.1 k.2).set (wR k'.1 k'.2).set :=
  Rect.unit_disjoint 0 (by have := Fin.val_ne_of_ne h; simp; omega)
theorem disj_t (k k' : Fin 2) (h : k ≠ k') : Disjoint (tR k.1 k.2).set (tR k'.1 k'.2).set :=
  Rect.unit_disjoint 0 (by have := Fin.val_ne_of_ne h; simp; omega)
theorem disj_r (x y : Fin 3 × Fin 4) (h : x ≠ y) : Disjoint (rR x.1.1 x.2.1 x.1.2 x.2.2).set (rR y.1.1 y.2.1 y.1.2 y.2.2).set := by
  by_cases h1 : x.1 = y.1
  · refine Rect.unit_disjoint 1 ?_
    have := Fin.val_ne_of_ne (fun h2 => h (Prod.ext h1 h2)); simp; omega
  · refine Rect.unit_disjoint 0 ?_
    have := Fin.val_ne_of_ne h1; simp; omega
theorem cov_w : (Finset.univ : Finset (Fin 2)).biUnion (fun k => (wR k.1 k.2).set) = Finset.univ := by
  refine Finset.eq_univ_of_forall fun i => Finset.mem_biUnion.mpr ⟨⟨(i 0).1, (i 0).isLt⟩, Finset.mem_univ _, Rect.mem_set_unit.mpr fun a => ?_⟩
  have h := (i a).isLt
  fin_cases a <;> simp at h ⊢ <;> omega
theorem cov_t : (Finset.univ : Finset (Fin 2)).biUnion (fun k => (tR k.1 k.2).set) = Finset.univ := by
  refine Finset.eq_univ_of_forall fun i => Finset.mem_biUnion.mpr ⟨⟨(i 0).1, (i 0).isLt⟩, Finset.mem_univ _, Rect.mem_set_unit.mpr fun a => ?_⟩
  have h := (i a).isLt
  fin_cases a <;> simp at h ⊢ <;> omega
theorem cov_r : (Finset.univ : Finset (Fin 3 × Fin 4)).biUnion (fun x => (rR x.1.1 x.2.1 x.1.2 x.2.2).set) = Finset.univ := by
  refine Finset.eq_univ_of_forall fun i => Finset.mem_biUnion.mpr ⟨(⟨(i 0).1, (i 0).isLt⟩, ⟨(i 1).1, (i 1).isLt⟩), Finset.mem_univ _, Rect.mem_set_unit.mpr fun a => ?_⟩
  have h := (i a).isLt
  fin_cases a <;> simp at h ⊢ <;> omega

/-- A buffer whole, at some contents. -/
abbrev wholeAny (c : Dev nD) (b : Ref sig .tc) : sProp 𝕄 := iprop(∃ f : Buf (Elt F) ((c : Thread nD τ).loc b), ((c : Thread nD τ).loc b) ↦{fullShare} f)

theorem sep2 (Φ : Fin 2 → sProp 𝕄) : bigSep Finset.univ Φ = iprop(Φ 0 ∗ Φ 1) :=
  bigSep_univ_eq_bigSepL [0, 1] (by decide) (by decide) Φ

section Bufs
variable [∀ e, Nonempty (Elt F e)] (c : Dev nD)

theorem wb_slots : (wholeAny (F := F) c cc0_scratch0) ⊣⊢ iprop(anyOf (F := F) c (wSlot 0 (by decide)) ∗ anyOf (F := F) c (wSlot 1 (by decide))) := by
  have h1 := any_split (F := F) c cc0_scratch0 (fun k : Fin 2 => wR k.1 k.2) (fun _ _ => rfl) (fun _ => squeezes_S1x4096x512_S4096x512) disj_w cov_w
  have h2 := any_join (F := F) c cc0_scratch0 (fun k : Fin 2 => wR k.1 k.2) (fun _ _ => rfl) (fun _ => squeezes_S1x4096x512_S4096x512) disj_w cov_w
  rw [sep2] at h1 h2; exact ⟨h1, h2⟩
theorem s16_slots : (wholeAny (F := F) c cc0_scratch1) ⊣⊢ iprop(anyOf (F := F) c (s16 0 (by decide)) ∗ anyOf (F := F) c (s16 1 (by decide))) := by
  have h1 := any_split (F := F) c cc0_scratch1 (fun k : Fin 2 => tR k.1 k.2) (fun _ _ => rfl) (fun _ => squeezes_S1x1024x512_S1024x512) disj_t cov_t
  have h2 := any_join (F := F) c cc0_scratch1 (fun k : Fin 2 => tR k.1 k.2) (fun _ _ => rfl) (fun _ => squeezes_S1x1024x512_S1024x512) disj_t cov_t
  rw [sep2] at h1 h2; exact ⟨h1, h2⟩
theorem s32_slots : (wholeAny (F := F) c cc0_scratch2) ⊣⊢ iprop(anyOf (F := F) c (s32 0 (by decide)) ∗ anyOf (F := F) c (s32 1 (by decide))) := by
  have h1 := any_split (F := F) c cc0_scratch2 (fun k : Fin 2 => tR k.1 k.2) (fun _ _ => rfl) (fun _ => squeezes_S1x1024x512_S1024x512) disj_t cov_t
  have h2 := any_join (F := F) c cc0_scratch2 (fun k : Fin 2 => tR k.1 k.2) (fun _ _ => rfl) (fun _ => squeezes_S1x1024x512_S1024x512) disj_t cov_t
  rw [sep2] at h1 h2; exact ⟨h1, h2⟩
theorem cv_slots : (wholeAny (F := F) c cc0_scratch4) ⊣⊢ iprop(anyOf (F := F) c (cv 0 (by decide)) ∗ anyOf (F := F) c (cv 1 (by decide))) := by
  have h1 := any_split (F := F) c cc0_scratch4 (fun k : Fin 2 => tR k.1 k.2) (fun _ _ => rfl) (fun _ => squeezes_S1x1024x512_S1024x512) disj_t cov_t
  have h2 := any_join (F := F) c cc0_scratch4 (fun k : Fin 2 => tR k.1 k.2) (fun _ _ => rfl) (fun _ => squeezes_S1x1024x512_S1024x512) disj_t cov_t
  rw [sep2] at h1 h2; exact ⟨h1, h2⟩
theorem rv_slots : (wholeAny (F := F) c cc0_scratch3) ⊣⊢ each fun a b => anyOf (F := F) c (rvF a b) := by
  have h1 := any_split (F := F) c cc0_scratch3 (fun x : Fin 3 × Fin 4 => rR x.1.1 x.2.1 x.1.2 x.2.2) (fun _ _ => rfl) (fun _ => squeezes_S1x1x1024x512_S1024x512) disj_r cov_r
  have h2 := any_join (F := F) c cc0_scratch3 (fun x : Fin 3 × Fin 4 => rR x.1.1 x.2.1 x.1.2 x.2.2) (fun _ _ => rfl) (fun _ => squeezes_S1x1x1024x512_S1024x512) disj_r cov_r
  rw [bigSep_univ_prod] at h1 h2; exact ⟨h1, h2⟩
end Bufs

/-! ## The weights, in two halves -/

theorem halves (m : (ℓ : Loc nD τ sig) → Buf (Elt F) ℓ) (c : Dev nD) :
    ((((c : Thread nD τ).loc main_arg1) ↦{fullShare} m ((c : Thread nD τ).loc main_arg1)) : sProp 𝕄) ⊣⊢ iprop(wHalf m c 0 ∗ wHalf m c 1) := by
  unfold wHalf wShare
  rw [if_pos rfl, if_neg (by decide)]
  exact pointsTo_share (PosShare.mem_left_op_right _)

/-! ## The result -/

theorem inb_res (s t : Fin 4) : ∀ a, (![1024 * s.1, 512 * t.1] : Fin 2 → ℕ) a + S1024x512.size a ≤ S4096x2048.size a := by
  intro a; fin_cases a <;> simp <;> omega
/-- The tile of the result at row block `s` and column tile `t`. -/
abbrev resR (s t : Fin 4) : Rect S4096x2048 := Rect.unit (s := S4096x2048) ![1024 * s.1, 512 * t.1] S1024x512.size (inb_res s t)
abbrev resT (s t : Fin 4) := oTile ![1024 * s.1, 512 * t.1] (inb_res s t)

theorem ownOff_eq : ∀ c (t : Fin 4), ownOff c t = ![1024 * c.1, 512 * t.1] := by decide +kernel
theorem gotOff_eq : ∀ c (a : Fin 3) (b : Fin 4), gotOff c a b = ![1024 * (src c a).1, 512 * b.1] := by decide +kernel
theorem oTile_congr {off off' : Fin 2 → ℕ} (h : off = off') (ho : ∀ a, off a + S1024x512.size a ≤ S4096x2048.size a)
    (ho' : ∀ a, off' a + S1024x512.size a ≤ S4096x2048.size a) : oTile off ho = oTile off' ho' := by subst h; rfl
theorem ownT_eq (c : Dev nD) (t : Fin 4) : ownT c t = resT c t := oTile_congr (ownOff_eq c t) _ _
theorem gotT_eq (c : Dev nD) (a : Fin 3) (b : Fin 4) : gotT c a b = resT (src c a) b := oTile_congr (gotOff_eq c a b) _ _

theorem disj_res (x y : Fin 4 × Fin 4) (h : x ≠ y) : Disjoint (resR x.1 x.2).set (resR y.1 y.2).set := by
  by_cases h1 : x.1 = y.1
  · refine Rect.unit_disjoint 1 ?_
    have := Fin.val_ne_of_ne (fun h2 => h (Prod.ext h1 h2)); simp; omega
  · refine Rect.unit_disjoint 0 ?_
    have := Fin.val_ne_of_ne h1; simp; omega
theorem cov_res : (Finset.univ : Finset (Fin 4 × Fin 4)).biUnion (fun x => (resR x.1 x.2).set) = Finset.univ := by
  refine Finset.eq_univ_of_forall fun i => Finset.mem_biUnion.mpr ⟨(⟨(i 0).1 / 1024, ?_⟩, ⟨(i 1).1 / 512, ?_⟩), Finset.mem_univ _, Rect.mem_set_unit.mpr fun a => ?_⟩
  · have h : (i 0).1 < 4096 := (i 0).isLt
    show _ < 4; omega
  · have h : (i 1).1 < 2048 := (i 1).isLt
    show _ < 4; omega
  · fin_cases a <;> simp <;> omega

/-- The devices are this one and the three whose tiles it receives. -/
def srcEmb (c : Dev nD) : Fin 3 ↪ Dev nD := ⟨src c, fun a a' h => by revert c a a'; decide⟩
theorem erase_eq : ∀ c : Dev nD, (Finset.univ.erase c : Finset (Dev nD)) = Finset.univ.image (src c) := by decide
theorem sep_devs (c : Dev nD) (Φ : Dev nD → sProp 𝕄) : bigSep Finset.univ Φ = iprop(Φ c ∗ bigSep Finset.univ fun a : Fin 3 => Φ (src c a)) := by
  rw [bigSep_univ_at Φ c, erase_eq, show Finset.univ.image (src c) = Finset.univ.map (srcEmb c) from (Finset.map_eq_image (srcEmb c) Finset.univ).symm, bigSep_map]
  rfl

/-- Which of its three sources device `s` is to device `c`. -/
def backOf (c s : Dev nD) : Fin 3 := ⟨(c.val + (3 - s.val)) % 4 % 3, Nat.mod_lt _ (by decide)⟩
theorem backOf_src : ∀ (c : Dev nD) (a : Fin 3), backOf c (src c a) = a := by decide
theorem src_ne : ∀ (c : Dev nD) (a : Fin 3), src c a ≠ c := by decide

theorem owns_out (c : Dev nD) (f : Buf (Elt F) ((c : Thread nD τ).loc main_v1)) :
    (owns (c : Thread nD τ) oM fullShare f : sProp 𝕄) = (((c : Thread nD τ).loc main_v1) ↦{fullShare} f) := owns_whole (c : Thread nD τ) main_v1 fullShare f

theorem out_join [∀ e, Nonempty (Elt F e)] (c : Dev nD) (f : Buf (Elt F) ((c : Thread nD τ).loc main_v1)) :
    (bigSep Finset.univ fun x : Fin 4 × Fin 4 => owns (c : Thread nD τ) (resT x.1 x.2) fullShare fun j => f ((resR x.1 x.2).emb j) : sProp 𝕄)
      ⊢ owns (c : Thread nD τ) oM fullShare f :=
  owns_of_rects (c : Thread nD τ) oM fullShare (fun x : Fin 4 × Fin 4 => resR x.1 x.2) (fun _ _ => rfl) disj_res cov_res f

section Out
variable (m : (ℓ : Loc nD τ sig) → Buf (Elt F) ℓ) (c : Dev nD)

/-- The tile at row block `s` and column tile `t` of device `c`'s result. -/
def outTile (s : Dev nD) (t : Fin 4) : FVec F S1024x512 .f32 := if s = c then ownTile m c t else gotTile m c (backOf c s) t

/-- Device `c`'s result. -/
def outF : FVec F S4096x2048 .f32 := fun i =>
  outTile m c ⟨(i 0).1 / 1024, by have h : (i 0).1 < 4096 := (i 0).isLt; show _ < 4; omega⟩
    ⟨(i 1).1 / 512, by have h : (i 1).1 < 2048 := (i 1).isLt; omega⟩
    (fun a => match a with
      | ⟨0, _⟩ => ⟨(i 0).1 % 1024, Nat.mod_lt _ (by decide)⟩
      | ⟨1, _⟩ => ⟨(i 1).1 % 512, Nat.mod_lt _ (by decide)⟩)

theorem outF_tile (s t : Fin 4) (j : S1024x512.Idx) : outF m c ((resR s t).emb j) = outTile m c s t j := by
  have h0 : (j 0).1 < 1024 := (j 0).isLt
  have h1 : (j 1).1 < 512 := (j 1).isLt
  have e0 : ((resR s t).emb j 0).1 = 1024 * s.1 + (j 0).1 := by rw [Rect.emb_apply]; simp
  have e1 : ((resR s t).emb j 1).1 = 512 * t.1 + (j 1).1 := by rw [Rect.emb_apply]; simp
  unfold outF
  have es : ∀ h, (⟨((resR s t).emb j 0).1 / 1024, h⟩ : Dev nD) = s := fun h => Fin.ext (by show _ / 1024 = _; rw [e0]; omega)
  have et : ∀ h, (⟨((resR s t).emb j 1).1 / 512, h⟩ : Fin 4) = t := fun h => Fin.ext (by show _ / 512 = _; rw [e1]; omega)
  rw [es, et]
  congr 1
  funext a
  fin_cases a
  · exact Fin.ext (by show ((resR s t).emb j 0).1 % 1024 = (j 0).1; rw [e0]; omega)
  · exact Fin.ext (by show ((resR s t).emb j 1).1 % 512 = (j 1).1; rw [e1]; omega)

theorem res_split : (wholeAny (F := F) c main_v1) ⊢ resFree (F := F) c := by
  iintro ⟨%f, H⟩
  have hw := owns_out c f
  have h : ((((c : Thread nD τ).loc main_v1) ↦{fullShare} f) : sProp 𝕄) ⊢ bigSep Finset.univ fun s : Dev nD => bigSep Finset.univ fun t : Fin 4 => anyOf (F := F) c (resT s t) := by
    rw [← bigSep_univ_prod (fun x : Dev nD × Fin 4 => anyOf (F := F) c (resT x.1 x.2)), ← hw]
    refine (owns_rects (c : Thread nD τ) oM fullShare (fun x : Fin 4 × Fin 4 => resR x.1 x.2) (fun _ _ => rfl) disj_res cov_res f).trans ?_
    exact bigSep_mono fun x _ => any_intro c (resT x.1 x.2) _
  rw [sep_devs c] at h
  ihave H := h $$ H
  icases H with ⟨H1, H2⟩
  unfold resFree
  simp only [ownT_eq, gotT_eq]
  isplitl [H1] <;> iassumption

theorem res_join [∀ e, Nonempty (Elt F e)] : resDone m c ⊢ ((((c : Thread nD τ).loc main_v1) ↦{fullShare} outF m c) : sProp 𝕄) := by
  have hw := owns_out c (outF m c)
  have h : (bigSep Finset.univ fun s : Dev nD => bigSep Finset.univ fun t : Fin 4 => ownsTc c (resT s t) fullShare (outTile m c s t) : sProp 𝕄)
      ⊢ (((c : Thread nD τ).loc main_v1) ↦{fullShare} outF m c) := by
    rw [← bigSep_univ_prod (fun x : Dev nD × Fin 4 => (ownsTc c (resT x.1 x.2) fullShare (outTile m c x.1 x.2) : sProp 𝕄)), ← hw]
    refine BIBase.Entails.trans ?_ (out_join c (outF m c))
    refine bigSep_mono fun x _ => ?_
    exact Entails.of_eq (congrArg (fun X => (ownsTc c (resT x.1 x.2) fullShare X : sProp 𝕄)) (funext fun j => (outF_tile m c x.1 x.2 j).symm))
  rw [sep_devs c] at h
  refine BIBase.Entails.trans ?_ h
  unfold resDone
  simp only [ownT_eq, gotT_eq]
  iintro ⟨H1, H2⟩
  have e1 : ∀ t, outTile m c c t = ownTile m c t := fun t => if_pos rfl
  have e2 : ∀ a t, outTile m c (src c a) t = gotTile m c a t := fun a t => by unfold outTile; rw [if_neg (src_ne c a), backOf_src]
  simp only [e1, e2]
  isplitl [H1] <;> iassumption
end Out

end Cert.K

end
-- ==== Proof.Setup.lean ====
/-
# The launch: the protocol's ghost state, dealt to the devices

The cells' rounds and duty tokens are minted at launch; all invariants are allocated under one update for all devices; the tokens
are then dealt to the devices that pay the duties.
-/
module

public import proofs.«01_k».proof.Proof.Buffers
public import Idealize.ShloMosaic.Lib.Pipeline.Launch
public import Idealize.ShloMosaic.Lib.Pipeline.Kit

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Sums over the cells -/

theorem each_sep (Φ Ψ : Fin 3 → Fin 4 → sProp 𝕄) : each (fun a b => iprop(Φ a b ∗ Ψ a b)) = iprop(each Φ ∗ each Ψ) := by
  unfold each
  rw [← bigSep_sep']
  exact bigSep_congr fun a _ => bigSep_sep' _ _ _

theorem sep_xfer (Φ : Bool × Fin 3 × Fin 4 → sProp 𝕄) :
    bigSep Finset.univ Φ = iprop((each fun a b => Φ (false, a, b)) ∗ each fun a b => Φ (true, a, b)) := by
  rw [bigSep_univ_prod, bigSep_univ_eq_bigSepL [false, true] (by decide) (by decide) (fun z : Bool => bigSep Finset.univ fun x : Fin 3 × Fin 4 => Φ (z, x))]
  unfold each
  rw [← bigSep_univ_prod (fun x : Fin 3 × Fin 4 => Φ (false, x)), ← bigSep_univ_prod (fun x : Fin 3 × Fin 4 => Φ (true, x))]
  rfl

theorem erase_none : (Finset.univ.erase none : Finset CI) = Finset.univ.map Function.Embedding.some := by decide +kernel
theorem sep_cells (Φ : CI → sProp 𝕄) :
    bigSep Finset.univ Φ = iprop(Φ none ∗ (each fun a b => Φ (some (false, a, b))) ∗ each fun a b => Φ (some (true, a, b))) := by
  rw [bigSep_univ_at Φ none, erase_none, bigSep_map, sep_xfer]
  rfl

/-! ## The semaphores -/

/-- The kernel's own semaphores: two each for the loads, the tiles written and the tiles converted; the transfers'. -/
abbrev OK : Type := (Fin 3 × Fin 2) ⊕ (Bool × Fin 3 × Fin 4)
def locS : Fin 3 × Fin 2 → SemLoc sig
  | (0, k) => .dma (ldS k.1 k.2)
  | (1, k) => .dma (loS k.1 k.2)
  | (2, k) => .dma (cvS k.1 k.2)
def osem : OK → SemLoc sig
  | .inl x => locS x
  | .inr x => csem (some x)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun x : Fin 3 × Fin 2 => zero (F := F) c (locS x)) ∗ each (zeroS (F := F) c) ∗ each (zeroR (F := F) c)) := by
  unfold Pipeline.ownSems0
  rw [bigSep_univ_sum]
  exact congrArg _ (sep_xfer fun x => zero (F := F) c (csem (some x)))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

def locals (c : Dev nD) : sProp 𝕄 := bigSep Finset.univ fun x : Fin 3 × Fin 2 => zero (F := F) c (locS x)

theorem sems0_eq (c : Dev nD) :
    iprop(Pipeline.ownSems0 (Ix := Unit) (Name := ℕ) (U := UU) (Lvl := ℕ) (Val := Elt F) (τ := τ) osem c ∗ unscopedSems0 c)
      ⊢ (iprop(locals (F := F) c ∗ bigSep Finset.univ fun k : CI => semVal (kcell (c, k)) 0) : sProp 𝕄) := by
  rw [ownSems0_eq, unscopedSems0_eq, sep_cells]
  unfold locals
  iintro ⟨⟨HL, HS, HR⟩, HB⟩
  isplitl [HL]; · iexact HL
  isplitl [HB]; · iexact HB
  isplitl [HS] <;> iassumption

/-! ## The launch element -/

def ringCells : Finset (GSem nD τ sig) := Finset.univ.map ⟨kcell, kcell_injective⟩

/-- The duty tokens as minted: three of each barrier cell, one of each transfer cell. -/
def tokOf : Dev nD × (Fin 3 ⊕ (Bool × Fin 3 × Fin 4)) → GSem nD τ sig × ℕ × Fin 3
  | (c, .inl a) => (barCell c, 0, a)
  | (c, .inr x) => (kcell (c, some x), 0, 0)
theorem tokOf_injective : Function.Injective tokOf := by
  rintro ⟨c, a | x⟩ ⟨c', a' | x'⟩ h
  · have h1 := kcell_injective (congrArg (fun y : GSem nD τ sig × ℕ × Fin 3 => y.1) h)
    have h2 : a = a' := congrArg (fun y : GSem nD τ sig × ℕ × Fin 3 => y.2.2) h
    rw [h2, (Prod.mk.inj h1).1]
  · exact absurd (Prod.mk.inj (kcell_injective (congrArg (fun y : GSem nD τ sig × ℕ × Fin 3 => y.1) h))).2 (by simp)
  · exact absurd (Prod.mk.inj (kcell_injective (congrArg (fun y : GSem nD τ sig × ℕ × Fin 3 => y.1) h))).2 (by simp)
  · have h1 := Prod.mk.inj (kcell_injective (congrArg (fun y : GSem nD τ sig × ℕ × Fin 3 => y.1) h))
    rw [h1.1, Option.some.inj h1.2]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun a : Fin 3 => dutyTok ER (barCell c) 0 a) ∗ (each fun a b => dutyTok ER (sendCell c a b) 0 0)
    ∗ each fun a b => dutyTok ER (recvCell c a b) 0 0)

section G
variable (m : (ℓ : Loc nD τ sig) → Buf (Elt F) ℓ)

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks (F := F) c)

theorem toks_minted : bigSep ringToks (fun x => (dutyTok ER x.1 x.2.1 x.2.2 : sProp 𝕄)) = bigSep Finset.univ fun c : Dev nD => toks (F := F) c := by
  unfold ringToks; rw [bigSep_map, bigSep_univ_prod]
  refine bigSep_congr fun c _ => ?_
  unfold toks
  rw [bigSep_univ_sum]
  exact congrArg _ (sep_xfer fun x => dutyTok ER (kcell (c, some x)) 0 0)

theorem cells_minted (Φ : GSem nD τ sig → sProp 𝕄) : bigSep ringCells Φ = bigSep Finset.univ fun c : Dev nD => bigSep Finset.univ fun k : CI => Φ (kcell (c, k)) := by
  unfold ringCells; rw [bigSep_map, bigSep_univ_prod]; rfl

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (cells_minted fun g => roundState ER (Rd m) g 0)) $$ Hst
  ihave Hat' := (Entails.of_eq (cells_minted fun g => atPos ER g 0 ∅ 0)) $$ Hat
  ihave Hr' := (Entails.of_eq (cells_minted fun g => reached ER g 0)) $$ Hr
  ihave Htok' := (Entails.of_eq toks_minted) $$ Htok
  unfold G; simp only [bigSep_sep']
  isplitl [Hst']; · iexact Hst'
  isplitl [Hat' Hr']
  · isplitl [Hat'] <;> iassumption
  iexact Htok'

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks (F := F) c ∗ locals (F := F) c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens of the duties device `c` pays. -/
def payToks (c : Dev nD) : sProp 𝕄 :=
  iprop((bigSep Finset.univ fun a : Fin 3 => dutyTok ER (barCell (src c a)) 0 a) ∗ (each fun a b => dutyTok ER (sendCell c a b) 0 0)
    ∗ each fun a b => dutyTok ER (recvCell (dst c a) a b) 0 0)
/-- What stays with device `c`. -/
def linear (c : Dev nD) : sProp 𝕄 :=
  iprop((bigSep Finset.univ fun k : CI => atPos ER (kcell (c, k)) 0 ∅ 0) ∗ payToks (F := F) c ∗ locals (F := F) c)
/-- What the global step makes for device `c`. -/
def G' (c : Dev nD) : sProp 𝕄 := iprop(∃ K, records m K ∗ linear (F := F) c)

theorem turn_devs (Φ : Dev nD → Fin 3 → sProp 𝕄) (e : Fin 3 → (Dev nD ≃ Dev nD)) :
    (bigSep Finset.univ fun c : Dev nD => bigSep Finset.univ fun a : Fin 3 => Φ c a)
      = bigSep Finset.univ fun c : Dev nD => bigSep Finset.univ fun a : Fin 3 => Φ (e a c) a := by
  rw [bigSep_univ_comm, bigSep_univ_comm fun (c : Dev nD) (a : Fin 3) => Φ (e a c) a]
  exact bigSep_congr fun a _ => bigSep_univ_equiv (e a) fun c => Φ c a

theorem toks_around : (bigSep Finset.univ fun c : Dev nD => toks (F := F) c) = bigSep Finset.univ fun c : Dev nD => payToks (F := F) c := by
  unfold toks payToks each
  rw [bigSep_sep', bigSep_sep', bigSep_sep', bigSep_sep',
    turn_devs (fun c a => dutyTok ER (barCell c) 0 a) fun a => (turn a).symm,
    turn_devs (fun c a => bigSep Finset.univ fun b : Fin 4 => dutyTok ER (recvCell c a b) 0 0) turn]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks (F := F) c ∗ locals (F := F) c) : sProp 𝕄)
      ⊢ bigSep Finset.univ (G' m) := by
  rw [bigSep_sep', bigSep_sep', bigSep_sep', toks_around, ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, HL⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) (Φ := fun c => linear (F := F) c) fun c _ => show _ ⊢ G' m c from by
    unfold G'; iintro H; iexists K; iexact H)
  isplitr
  · unfold records; isplitl; · iexact HI
    iexact HR
  · unfold linear
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end G

/-! ## The credit at launch -/

/-- Owed by `d` to the receive cell `(a, b)` of `c`: a tile, once for each send of it in the list. -/
theorem owedL_recv (d c : Dev nD) (a : Fin 3) (b : Fin 4) (l : List (Fin 3 × Fin 4)) :
    owedL d l (recvCell c a b) () = if d = src c a then N * l.count (a, b) else 0 := by
  induction l with
  | nil => unfold owedL; rw [List.count_nil, Nat.mul_zero, ite_self]; rfl
  | cons x l ih =>
    unfold owedL
    rw [Pi.add_apply, Finsupp.add_apply, ih, tallyAt_apply, List.count_cons]
    by_cases hx : x = (a, b)
    · subst hx
      by_cases hd : d = src c a
      · subst hd
        rw [dst_src, if_pos rfl, if_pos rfl, if_pos ⟨rfl, rfl⟩]
        simp only [beq_self_eq_true, if_true]; rw [Nat.mul_add, Nat.mul_one]
      · rw [if_neg hd, if_neg hd, if_neg]
        rintro ⟨h, -⟩
        have h1 : c = dst d a := (Prod.mk.inj (kcell_injective h)).1
        exact hd (by rw [h1, src_dst])
    · have hb : (x == (a, b)) = false := by simpa using hx
      rw [hb, if_neg (c := recvCell c a b = _ ∧ _)]
      · simp
      · rintro ⟨h, -⟩
        have h1 := Option.some.inj (Prod.mk.inj (kcell_injective h)).2
        exact hx (Prod.ext (congrArg (fun y => y.2.1) h1).symm (congrArg (fun y => y.2.2) h1).symm)

theorem bar_ne_recv (d c : Dev nD) (a : Fin 3) (b : Fin 4) : recvCell c a b ≠ barCell d := fun h => by
  have h1 := (Prod.mk.inj (kcell_injective h)).2
  exact absurd h1 (by simp)

theorem owed_recv (d c : Dev nD) (a : Fin 3) (b : Fin 4) : O₀ d (recvCell c a b) () = if d = src c a then N else 0 := by
  unfold O₀
  rw [Pi.add_apply, Finsupp.add_apply, Pi.add_apply, Finsupp.add_apply, Pi.add_apply, Finsupp.add_apply,
    tallyAt_ne_cell (bar_ne_recv _ c a b), tallyAt_ne_cell (bar_ne_recv _ c a b), tallyAt_ne_cell (bar_ne_recv _ c a b), owedL_recv,
    Finsupp.zero_apply, Nat.add_zero, Nat.add_zero, Nat.add_zero,
    show sendOrder.count (a, b) = 1 from by revert a b; decide, Nat.mul_one]

theorem tally_bar (d c : Dev nD) (a : Fin 3) : (tallyAt (barCell (src d a)) () 1 : CellTallies nD τ sig Unit) (barCell c) () = if d = dst c a then 1 else 0 := by
  rw [tallyAt_apply]
  by_cases h : d = dst c a
  · subst h; rw [src_dst, if_pos ⟨rfl, rfl⟩, if_pos rfl]
  · rw [if_neg h, if_neg]
    rintro ⟨h1, -⟩
    have h2 : c = src d a := (Prod.mk.inj (kcell_injective h1)).1
    exact h (by rw [h2, dst_src])

theorem owedL_bar (d c : Dev nD) (l : List (Fin 3 × Fin 4)) : owedL d l (barCell c) () = 0 := by
  by_contra h
  obtain ⟨d', a, b, h1⟩ := owedL_pos (Nat.pos_of_ne_zero h)
  exact bar_ne_recv _ _ _ _ h1.symm

theorem owed_bar (d c : Dev nD) : O₀ d (barCell c) () = (if d = dst c 0 then 1 else 0) + (if d = dst c 1 then 1 else 0) + (if d = dst c 2 then 1 else 0) := by
  unfold O₀
  rw [Pi.add_apply, Finsupp.add_apply, Pi.add_apply, Finsupp.add_apply, Pi.add_apply, Finsupp.add_apply, tally_bar, tally_bar, tally_bar, owedL_bar, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dst c 0) fun _ => 1, Finset.sum_ite_eq' Finset.univ (dst c 1) fun _ => 1, Finset.sum_ite_eq' Finset.univ (dst c 2) fun _ => 1,
    if_pos (Finset.mem_univ _), if_pos (Finset.mem_univ _), if_pos (Finset.mem_univ _)]

theorem launch_recv (c : Dev nD) (a : Fin 3) (b : Fin 4) :
    tallyOn (recvCell c a b) (launchCredit (Pipeline.owing O₀) 0 (recvCell c a b)) = (tallyAt (recvCell c a b) () N : CellTallies nD τ sig Unit) := by
  unfold tallyAt; refine congrArg _ (Finsupp.ext fun u => ?_); cases u
  rw [Pipeline.launchCredit_owing, Finsupp.single_eq_same, Finset.sum_congr rfl fun d _ => owed_recv d c a b, Finset.sum_ite_eq' Finset.univ (src c a) fun _ => N,
    if_pos (Finset.mem_univ _)]

theorem drop_mid (A B C : sProp 𝕄) : iprop(A ∗ B ∗ C) ⊢ iprop(A ∗ C) := by
  iintro ⟨H1, -, H2⟩
  isplitl [H1] <;> iassumption

theorem creds (c : Dev nD) :
    (Pipeline.launchCred O₀ c : sProp 𝕄) ⊢ iprop(cred (tallyAt (barCell c) () 3) ∗ each fun a b => cred (tallyAt (recvCell c a b) () N)) := by
  unfold Pipeline.launchCred
  refine (bigSep_subset (Finset.subset_univ (Finset.univ.map ⟨csem, csem_inj⟩))).trans ?_
  rw [bigSep_map, sep_cells]
  have h1 : each (fun a b => (cred (tallyOn (recvCell c a b) (launchCredit (Pipeline.owing O₀) 0 (recvCell c a b))) : sProp 𝕄)) = each fun a b => cred (tallyAt (recvCell c a b) () N) := by
    unfold each; exact bigSep_congr fun a _ => bigSep_congr fun b _ => congrArg (fun t => (cred t : sProp 𝕄)) (launch_recv c a b)
  rw [← h1, ← launch_bar]
  exact drop_mid _ _ _

end Cert.K

end
-- ==== Proof.Launch.lean ====
/-
# The launch of the kernel on the mesh, and its run

`run_main`: for any float values, every execution of `main` on the four devices ends with each device's result at `outF`, both
arguments unchanged and every semaphore counter at zero.
-/
module

public import proofs.«01_k».proof.Proof.Setup
public import Idealize.ShloMosaic.Lib.Pipeline.CollectiveSegs
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- The five buffers of a device, whole. -/
def scr (c : Dev nD) : sProp 𝕄 :=
  iprop(wholeAny (F := F) c cc0_scratch0 ∗ wholeAny (F := F) c cc0_scratch1 ∗ wholeAny (F := F) c cc0_scratch2 ∗ wholeAny (F := F) c cc0_scratch3
    ∗ wholeAny (F := F) c cc0_scratch4)
def w1 (c : Dev nD) : sProp 𝕄 := ((c : Thread nD τ).loc main_arg1) ↦{fullShare} m ((c : Thread nD τ).loc main_arg1)

/-- What a device starts with, besides its buffers. -/
def start (c : Dev nD) : sProp 𝕄 :=
  iprop(G' m c ∗ levAts L lv ∗ cred (tallyAt (barCell c) () 3) ∗ (each fun a b => cred (tallyAt (recvCell c a b) () N))
    ∗ w1 m c ∗ wholeAny (F := F) c main_v1)
def Φ₀ (c : Dev nD) : sProp 𝕄 := iprop(start m c ∗ scr (F := F) c)
/-- What it ends with: the weights as they were, the result, every cell closed. -/
def done (c : Dev nD) : sProp 𝕄 :=
  iprop(w1 m c ∗ (((c : Thread nD τ).loc main_v1) ↦{fullShare} outF m c) ∗ semVal (barCell c) 0)
def Φ₁ (c : Dev nD) : sProp 𝕄 :=
  iprop(done m c ∗ (locals (F := F) c ∗ each (zeroS (F := F) c) ∗ each (zeroR (F := F) c)) ∗ scr (F := F) c)

theorem locals_eq (c : Dev nD) : locals (F := F) c = iprop((zero (F := F) c (.dma (ldS 0 (by decide))) ∗ zero (F := F) c (.dma (ldS 1 (by decide))))
    ∗ (zero (F := F) c (.dma (loS 0 (by decide))) ∗ zero (F := F) c (.dma (loS 1 (by decide))))
    ∗ (zero (F := F) c (.dma (cvS 0 (by decide))) ∗ zero (F := F) c (.dma (cvS 1 (by decide))))) := by
  unfold locals
  rw [bigSep_univ_prod, sep3, sep2, sep2, sep2]
  rfl

theorem linear_eq (c : Dev nD) : linear (F := F) c
    = iprop((atPos ER (barCell c) 0 ∅ 0 ∗ (each fun a b => atPos ER (sendCell c a b) 0 ∅ 0) ∗ each fun a b => atPos ER (recvCell c a b) 0 ∅ 0)
      ∗ ((bigSep Finset.univ fun a : Fin 3 => dutyTok ER (barCell (src c a)) 0 a) ∗ (each fun a b => dutyTok ER (sendCell c a b) 0 0)
        ∗ each fun a b => dutyTok ER (recvCell (dst c a) a b) 0 0)
      ∗ (zero (F := F) c (.dma (ldS 0 (by decide))) ∗ zero (F := F) c (.dma (ldS 1 (by decide))))
      ∗ (zero (F := F) c (.dma (loS 0 (by decide))) ∗ zero (F := F) c (.dma (loS 1 (by decide))))
      ∗ (zero (F := F) c (.dma (cvS 0 (by decide))) ∗ zero (F := F) c (.dma (cvS 1 (by decide))))) := by
  unfold linear payToks
  rw [sep_cells, locals_eq]

/-- The device's parts, put in the shape the walk of the body starts from; -/
theorem body_start (c : Dev nD) : iprop(Φ₀ m c ∗ ow c (O₀ c) ∗ xPts m c) ⊢ (iprop(∃ K, ctx m K ∗ bodyStart m c) : sProp 𝕄) := by
  unfold Φ₀ start G' scr w1
  iintro ⟨⟨⟨⟨%K, Hrec, Hlin⟩, Hlev, HcB, HcR, Hw, Hout⟩, HS0, HS1, HS2, HS3, HS4⟩, HO, Hx⟩
  ihave Hlin := (Entails.of_eq (linear_eq (F := F) c)) $$ Hlin
  icases Hlin with ⟨Hat, Htok, Hloc⟩
  icases Hat with ⟨HaB, HaS, HaR⟩
  icases Htok with ⟨HtB, HtS, HtR⟩
  icases Hloc with ⟨⟨Hl0, Hl1⟩, ⟨Ho0, Ho1⟩, ⟨Hv0, Hv1⟩⟩
  ihave HS0 := (wb_slots (F := F) c).1 $$ HS0
  icases HS0 with ⟨Hw0, Hw1⟩
  ihave HS1 := (s16_slots (F := F) c).1 $$ HS1
  ihave HS2 := (s32_slots (F := F) c).1 $$ HS2
  icases HS2 with ⟨Hs0, Hs1⟩
  ihave HS3 := (rv_slots (F := F) c).1 $$ HS3
  ihave HS4 := (cv_slots (F := F) c).1 $$ HS4
  icases HS4 with ⟨Hc0, Hc1⟩
  ihave Hw := (halves m c).1 $$ Hw
  icases Hw with ⟨Hh0, Hh1⟩
  ihave Hout := (res_split (F := F) c) $$ Hout
  iexists K
  isplitl [Hrec Hlev]
  · unfold ctx; isplitl [Hrec] <;> iassumption
  unfold bodyStart
  isplitr [HcR HaR Hs0 Hs1 Hc0 Hc1 Ho0 Ho1 Hv0 Hv1 Hout]
  · unfold sendStart
    isplitl [HO]; · iexact HO
    isplitl [HtB HS3 HcB HaB]
    · unfold hsTok
      isplitl [HtB]; · iexact HtB
      isplitl [HS3]; · unfold each landing; iexact HS3
      isplitl [HcB] <;> iassumption
    isplitl [HtS HtR HaS]
    · rw [show (each (sendTok (F := F) c)) = each (fun a b => iprop(dutyTok ER (sendCell c a b) 0 0 ∗ dutyTok ER (recvCell (dst c a) a b) 0 0 ∗ atPos ER (sendCell c a b) 0 ∅ 0)) from rfl,
        each_sep, each_sep]
      isplitl [HtS]; · iexact HtS
      isplitl [HtR] <;> iassumption
    isplitl [Hw0 Hw1 Hl0 Hl1 Hh0 Hh1]
    · unfold ldFree2 ldFree
      isplitl [Hw0 Hl0 Hh0]
      · isplitl [Hh0]; · iexact Hh0
        isplitl [Hw0] <;> iassumption
      · isplitl [Hh1]; · iexact Hh1
        isplitl [Hw1] <;> iassumption
    isplitl [Hx]; · iexact Hx
    unfold s16Free2; iexact HS1
  isplitl [HcR HaR]
  · rw [show (each (recvTok (F := F) c)) = each (fun a b => iprop(cred (tallyAt (recvCell c a b) () N) ∗ atPos ER (recvCell c a b) 0 ∅ 0)) from rfl, each_sep]
    isplitl [HcR] <;> iassumption
  isplitr [Hout]
  · unfold outFree loFree cvFree
    isplitl [Hs0 Ho0]; · isplitl [Hs0] <;> iassumption
    isplitl [Hs1 Ho1]; · isplitl [Hs1] <;> iassumption
    isplitl [Hc0 Hv0]; · isplitl [Hc0] <;> iassumption
    isplitl [Hc1] <;> iassumption
  iexact Hout

/-- and gathered again from the shape it ends in. -/
theorem body_done (c : Dev nD) : bodyEnd m c ⊢ (iprop(Φ₁ m c ∗ ow c 0 ∗ xPts m c) : sProp 𝕄) := by
  unfold bodyEnd ldFree2 ldFree outFree loFree cvFree
  iintro ⟨HO, HzB, HzS, HzR, HS3, ⟨⟨Hh0, Hw0, Hl0⟩, ⟨Hh1, Hw1, Hl1⟩⟩, Hx, HS1, ⟨⟨Hs0, Ho0⟩, ⟨Hs1, Ho1⟩, ⟨Hc0, Hv0⟩, ⟨Hc1, Hv1⟩⟩, Hres⟩
  isplitr [HO Hx]
  · unfold Φ₁ done scr
    isplitl [Hh0 Hh1 Hres HzB]
    · isplitl [Hh0 Hh1]
      · unfold w1; iapply (halves m c).2; isplitl [Hh0] <;> iassumption
      isplitl [Hres]; · iapply (res_join m c); iexact Hres
      iexact HzB
    isplitl [HzS HzR Hl0 Hl1 Ho0 Ho1 Hv0 Hv1]
    · isplitl [Hl0 Hl1 Ho0 Ho1 Hv0 Hv1]
      · rw [locals_eq]
        isplitl [Hl0 Hl1]; · isplitl [Hl0] <;> iassumption
        isplitl [Ho0 Ho1]; · isplitl [Ho0] <;> iassumption
        isplitl [Hv0] <;> iassumption
      isplitl [HzS] <;> iassumption
    isplitl [Hw0 Hw1]; · iapply (wb_slots (F := F) c).2; isplitl [Hw0] <;> iassumption
    isplitl [HS1]; · iapply (s16_slots (F := F) c).2; unfold s16Free2; iexact HS1
    isplitl [Hs0 Hs1]; · iapply (s32_slots (F := F) c).2; isplitl [Hs0] <;> iassumption
    isplitl [HS3]; · iapply (rv_slots (F := F) c).2; iexact HS3
    iapply (cv_slots (F := F) c).2; isplitl [Hc0] <;> iassumption
  isplitl [HO]; · unfold owedL; iexact HO
  iexact Hx

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ ∃ d, stg c cc0_stg0_0 ((dats m ρ 0 c).before (0 : Fin 1) t0_0 d))
def bodyPost (c : Dev nD) : sProp 𝕄 :=
  iprop(Φ₁ m c ∗ (dats m ρ 0 c).owesAt () t0_0.succ ∗ stg c cc0_stg0_0 (xv m c))

theorem fetch_0 (t : Fin cfg0.N) : (cfg0.win (0 : Fin 1)).fetch t = true := by rw [fin_N0 t]; rfl

theorem pre_intro (c : Dev nD) : bodyPre m ρ c ⊢ (iprop(∃ K, ctx m K ∗ bodyStart m c) : sProp 𝕄) := by
  unfold bodyPre
  iintro ⟨HΦ, Ho, ⟨%d, %g, %hg, Hx⟩⟩
  have hx : g = xv m c := by rw [hg]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply (body_start m c)
  isplitl [HΦ]; · iexact HΦ
  isplitl [HO]; · unfold ow; iexists W; iexact HO
  unfold xPts; iexact Hx

theorem post_intro (c : Dev nD) : bodyEnd m c ⊢ bodyPost m ρ c := by
  iintro H
  ihave H := (body_done m c) $$ H
  icases H with ⟨HΦ, HO, Hx⟩
  unfold bodyPost Dat.owesAt Pipeline.owesWithin
  rw [show (dats m ρ 0 c).owed t0_0.succ = 0 from rfl]
  isplitl [HΦ]; · iexact HΦ
  isplitl [HO]
  · unfold ow
    icases HO with ⟨%W, HO⟩
    iexists W
    isplitr; · ipureintro; exact fun _ _ => Or.inl trivial
    iexact HO
  unfold xPts
  iexists _; isplitr; · (ipureintro; rfl)
  iexact Hx

/-- The body as the call names it. -/
def prog : Prog (TpuEff nD τ sig (Elt F) Λ₀ .tc) PUnit :=
  cc0_body (F := F) (Memref.whole cc0_stg0_0) (Memref.isWhole_whole _) (Memref.whole main_arg1) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
theorem body_sound (c : Dev nD) : bodyPre m ρ c ⊢ wp frame (wpE (defs₀ (F := F)) 𝒱₀ (c : Thread nD τ) none) Set.univ (prog (F := F)) (fun _ => bodyPost m ρ c) := by
  unfold prog
  rw [body_eq]
  simp only [Prog.lift, Prog.bind_op, Prog.bind_ret, wp_deviceId]
  iintro H
  ihave H := (pre_intro m ρ c) $$ H
  icases H with ⟨%K, Hc, Hb⟩
  iapply ((body_rule m K c).trans (wp_wand frame _ _)) $$ [Hc Hb]
  · isplitl [Hc] <;> iassumption
  · iintro %_ H; iapply (post_intro m ρ c); iexact H

theorem prog_eq : (defs₀ (F := F)) .tc cfg0.body (cfg0.bodyArgs t0_0 (cfg0.slots t0_0)) = prog (F := F) := rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [prog_eq]
  refine BIBase.Entails.trans (show _ ⊢ bodyPre m ρ c from ?_) (BIBase.Entails.trans (body_sound m ρ c) ?_)
  · rw [show (dats m ρ 0 c).Φ t0_0.castSucc = Φ₀ m c from rfl]
    unfold bodyPre stg
    exact BI.Entails.refl _
  · rw [show (dats m ρ 0 c).Φ t0_0.succ = Φ₁ m c from rfl, show (dats m ρ 0 c).after 0 t0_0 = xv m c from rfl]
    unfold bodyPost stg
    refine Entails.of_eq ?_
    congr 1

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  iintro ⟨⟨Hw, Ho⟩, Hlev, Hcr, -, HG⟩
  ihave Hc := (creds (F := F) c) $$ Hcr
  icases Hc with ⟨H1, HN⟩
  imodintro
  unfold start w1
  isplitl
  · isplitl [HG]; · iexact HG
    isplitl [Hlev]; · iexact Hlev
    isplitl [H1]; · iexact H1
    isplitl [HN]; · iexact HN
    isplitl [Hw]; · iexact Hw
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scr locals
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_start c _ _ (by
      rcases t with ⟨_ | _, ht⟩
      · exact Or.inl rfl
      · exact Or.inr rfl) (by
      rw [cls_none (by fin_cases w <;> fin_cases s <;> decide +kernel)]; rfl)

/-! ## The run -/

/-- The weights, the result and the barrier's counter are read off what a device ends with. -/
def final (c : Dev nD) (s : MemSt nD τ sig (Elt F)) : Prop :=
  s.mem ((c : Thread nD τ).loc main_arg1) = m ((c : Thread nD τ).loc main_arg1) ∧ s.mem ((c : Thread nD τ).loc main_v1) = outF m c
    ∧ ∀ sm : SemLoc sig, sm.isScoped .tc = false → s.sem ((c.tc : Thread nD τ), sm) = 0

theorem read_one (c : Dev nD) (b : Ref sig .tc) (f : Buf (Elt F) ((c : Thread nD τ).loc b)) (s' : Phys nD τ sig (Elt F)) :
    (iprop((((c : Thread nD τ).loc b) ↦{fullShare} f) ∗ SI s') : sProp 𝕄) ⊢ iprop(⌜s'.mem.mem ((c : Thread nD τ).loc b) = f⌝ ∗ SI s') := by
  have h := pointsTo_read_all (Ix := Unit) (Name := ℕ) (U := UU) (Lvl := ℕ) ({()} : Finset Unit) (fun _ => (c : Thread nD τ).loc b) (fun _ => f) s'
  rw [bigSep_singleton] at h
  iintro H
  ihave H := h $$ H
  icases H with ⟨%h, H⟩
  isplitr; · ipureintro; exact h () (Finset.mem_singleton_self _)
  iexact H

theorem final_read (c : Dev nD) (s' : Phys nD τ sig (Elt F)) :
    (iprop(done m c ∗ emp ∗ SI s') : sProp 𝕄) ⊢ |={Set.univ}=> iprop(⌜final m c s'.mem⌝ ∗ SI s') := by
  unfold done w1
  iintro ⟨⟨Hw, Ho, Hb⟩, -, HSI⟩
  ihave H := (read_one c main_arg1 _ s') $$ [Hw HSI]
  · isplitl [Hw] <;> iassumption
  icases H with ⟨%h1, HSI⟩
  ihave H := (read_one c main_v1 _ s') $$ [Ho HSI]
  · isplitl [Ho] <;> iassumption
  icases H with ⟨%h2, HSI⟩
  imod (Pipeline.unscopedSems0_read (X := unscopedSems0 c) (c := c) fupd_intro s') $$ [Hb HSI] with ⟨%h3, HSI⟩
  · isplitl [Hb]
    · rw [unscopedSems0_eq]; iexact Hb
    · iexact HSI
  imodintro
  isplitr; · ipureintro; exact ⟨h1, h2, h3⟩
  iexact HSI

def QC : PUnit × MemSt nD τ sig (Elt F) → Prop := fun r => ∀ c : Dev nD,
  r.2.mem ((c : Thread nD τ).loc main_v1) = outF m c
    ∧ r.2.mem ((c : Thread nD τ).loc main_arg0) = m ((c : Thread nD τ).loc main_arg0)
    ∧ r.2.mem ((c : Thread nD τ).loc main_arg1) = m ((c : Thread nD τ).loc main_arg1)

theorem u₀_split : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb embR _ _) $$ HX
  icases HX with ⟨HX, -⟩
  imod (fund_ring m) $$ HX with HG
  imodintro
  isplitl [HP] <;> iassumption

theorem final_intro (s : MemSt nD τ sig (Elt F))
    (h : ∀ c : Dev nD, (∀ w, s.mem ((cfg0.win w).arr.view.loc (c : Thread nD τ)) = (dats m ρ 0 c).arrAt w cfg0.N) ∧ final m c s)
    (hs : ∀ g : GSem nD τ sig, (g.1.2 ≠ .tc ∨ g.2.isScoped .tc = true) → s.sem g = 0) : QC m (⟨⟩, s) ∧ s.sem = fun _ => 0 :=
  ⟨fun c => ⟨(h c).2.2.1, ((h c).1 (0 : Fin 1)).trans ((dats (F := F) m ρ 0 c).arrAt_in (0 : Fin 1) rfl _), (h c).2.1⟩,
    sem_eq_zero hs fun c => (h c).2.2.2⟩

set_option maxRecDepth 100000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := u₀_split m)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := final m) (hY := final_read m)
    (hQ := fun s h hs => final_intro m ρ s (fun c => ⟨(h c).1, (h c).2.2⟩) hs)

end Cert.K

end
-- ==== Proof.Value.lean ====
/-
# The value: a device's result is its block of the reference's

Over the extended reals a tile of the result is, element by element, the gelu of a row of `x` times a column of `w`, whichever
device computed it: the narrowing on the way changes nothing.
-/
module

public import proofs.«01_k».proof.Proof.Buffers
public import proofs.«01_k».proof.Proof.Gen.ReferenceIdeal.Run
public import Idealize.ShloMosaic.Lib.Pointwise
public import Idealize.ShloMosaic.Lib.Layout

@[expose] public section

set_option backward.proofsInPublic true

noncomputable section

namespace Cert.K

open Cert.KernelIdeal Cert.KernelIdeal.Gen
open Idealize.ShloMosaic Idealize.ShloMosaic.TcCoe

/-- The gelu the kernel computes, of one product. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

set_option maxRecDepth 16384 in
theorem tile32_apply (x : FVec Ideal S1024x4096 .f32) (w : FVec Ideal S4096x512 .f32) (r : Fin 1024) (k : Fin 512) :
    tile32 x w (ix2 r k) = gelu (∑ i : Fin 4096, x (ix2 r i) * w (ix2 i k)) := by
  pointwise [tile32, gelu]

variable (m : (ℓ : Loc nD τ sig) → Buf (Elt Ideal) ℓ)

/-- The staged block of `x` is all of the device's block. -/
theorem xv_apply (c : Dev nD) (r : Fin 1024) (i : Fin 4096) :
    (xv m c : FVec Ideal S1024x4096 .f32) (ix2 r i) = (m ((c : Thread nD τ).loc main_arg0) : FVec Ideal S1024x4096 .f32) (ix2 r i) := by
  refine congrArg (m ((c : Thread nD τ).loc main_arg0) : FVec Ideal S1024x4096 .f32) ?_
  funext a
  fin_cases a
  · exact Fin.ext (by show 0 * 1024 + 1 * r.1 = r.1; omega)
  · exact Fin.ext (by show 0 * 4096 + 1 * i.1 = i.1; omega)

/-- A weight tile is the columns from its offset on. -/
theorem wv_apply (c : Dev nD) (off : Fin 2 → ℕ) (ho : ∀ a, off a + S4096x512.size a ≤ S4096x8192.size a) (o : ℕ) (e : off = ![0, o])
    (i : Fin 4096) (k : Fin 512) (h : o + k.1 < 8192) :
    wv m c off ho (ix2 i k) = (m ((c : Thread nD τ).loc main_arg1) : FVec Ideal S4096x8192 .f32) (ix2 i ⟨o + k.1, h⟩) := by
  subst e
  refine congrArg (m ((c : Thread nD τ).loc main_arg1) : FVec Ideal S4096x8192 .f32) ?_
  funext a
  fin_cases a
  · exact Fin.ext (by show 0 + 1 * i.1 = i.1; omega)
  · exact Fin.ext (by show o + 1 * k.1 = o + k.1; omega)

theorem off_own : ∀ (c : Dev nD) (t : Fin 4), k0_off1 c 0#32 (BitVec.ofNat 32 (512 * t.1)) = ![0, 2048 * c.1 + 512 * t.1] := by
  decide +kernel
theorem off_sent : ∀ (c : Dev nD) (s : Dev nD) (t : Fin 4), s ≠ c →
    k0_off1 (src c (backOf c s)) (BitVec.ofNat 32 ((backOf c s).1 + 1)) (BitVec.ofNat 32 (512 * t.1)) = ![0, 2048 * c.1 + 512 * t.1] := by
  decide +kernel
theorem src_backOf : ∀ (c s : Dev nD), s ≠ c → src c (backOf c s) = s := by decide

variable (x : FVec Ideal ⟨2, ![4096, 4096]⟩ .f32) (w : FVec Ideal S4096x8192 .f32)

/-- One product of the whole arrays. -/
def prodAt (r : Fin 4096) (k : Fin 8192) : EReal := ∑ i : Fin 4096, x (ix2 r i) * w (ix2 i k)

variable (hx : ∀ c : Dev nD, (m ((c : Thread nD τ).loc main_arg0) : FVec Ideal S1024x4096 .f32)
    = Layout.block ⟨2, ![1024, 4096]⟩ ⟨2, ![4096, 4096]⟩ 0 4 c x)
  (hw : ∀ c : Dev nD, (m ((c : Thread nD τ).loc main_arg1) : FVec Ideal S4096x8192 .f32) = w)

include hx in
/-- A row of a device's block of `x` is a row of `x`. -/
theorem x_row (c : Dev nD) (r : Fin 1024) (i : Fin 4096) :
    (m ((c : Thread nD τ).loc main_arg0) : FVec Ideal S1024x4096 .f32) (ix2 r i) = x (ix2 ⟨1024 * c.1 + r.1, by have : c.1 < 4 := c.2; omega⟩ i) := by
  rw [hx c, Layout.block_apply]
  congr 1
  funext a
  fin_cases a
  · exact Fin.ext (by show c.1 * 1024 + r.1 = 1024 * c.1 + r.1; omega)
  · rfl

include hx hw in
/-- A tile computed on device `s` from the weights' columns from `o` on. -/
theorem tile_apply (s : Dev nD) (off : Fin 2 → ℕ) (ho : ∀ a, off a + S4096x512.size a ≤ S4096x8192.size a) (o : ℕ) (e : off = ![0, o])
    (r : Fin 1024) (k : Fin 512) (hr : 1024 * s.1 + r.1 < 4096) (h : o + k.1 < 8192) :
    tile32 (xv m s) (wv m s off ho) (ix2 r k) = gelu (prodAt x w ⟨1024 * s.1 + r.1, hr⟩ ⟨o + k.1, h⟩) := by
  rw [tile32_apply]
  unfold prodAt
  congr 1
  refine Finset.sum_congr rfl fun i _ => ?_
  rw [xv_apply, wv_apply m s off ho o e i k h, x_row m x hx, hw]

include hx hw in
/-- A tile of the result, wherever it was computed. -/
theorem outTile_apply (c s : Dev nD) (t : Fin 4) (r : Fin 1024) (k : Fin 512) (hr : 1024 * s.1 + r.1 < 4096)
    (h : 2048 * c.1 + 512 * t.1 + k.1 < 8192) :
    outTile m c s t (ix2 r k) = gelu (prodAt x w ⟨1024 * s.1 + r.1, hr⟩ ⟨2048 * c.1 + 512 * t.1 + k.1, h⟩) := by
  unfold outTile
  by_cases e : s = c
  · rw [if_pos e]
    subst e
    exact tile_apply m x w hx hw s _ _ _ (off_own s t) r k hr h
  · rw [if_neg e]
    have e' := src_backOf c s e
    refine (tile_apply m x w hx hw (src c (backOf c s)) _ _ _ (off_sent c s t e) r k (by rw [e']; exact hr) h).trans ?_
    congr 2
    exact Fin.ext (by show 1024 * (src c (backOf c s)).1 + r.1 = 1024 * s.1 + r.1; rw [e'])

/-- The reference's result: gelu of the whole product. -/
def refV : FVec Ideal S4096x8192 .f32 := fun i => gelu (prodAt x w (i 0) (i 1))

include hx hw in
/-- Each device's result is its block of the reference's. -/
theorem outF_block (c : Dev nD) : outF m c = Layout.block ⟨2, ![4096, 2048]⟩ ⟨2, ![4096, 8192]⟩ 1 4 c (refV x w) := by
  funext j
  have h0 : (j 0).1 < 4096 := (j 0).isLt
  have h1 : (j 1).1 < 2048 := (j 1).isLt
  have hc : c.1 < 4 := c.2
  have hs : (j 0).1 / 1024 < 4 := by omega
  have ht : (j 1).1 / 512 < 4 := by omega
  have hr : (j 0).1 % 1024 < 1024 := Nat.mod_lt _ (by decide)
  have hk : (j 1).1 % 512 < 512 := Nat.mod_lt _ (by decide)
  have ej : j = (resR ⟨(j 0).1 / 1024, hs⟩ ⟨(j 1).1 / 512, ht⟩).emb (ix2 ⟨(j 0).1 % 1024, hr⟩ ⟨(j 1).1 % 512, hk⟩) := by
    funext a
    fin_cases a
    · exact Fin.ext (by show (j 0).1 = 1024 * ((j 0).1 / 1024) + 1 * ((j 0).1 % 1024); omega)
    · exact Fin.ext (by show (j 1).1 = 512 * ((j 1).1 / 512) + 1 * ((j 1).1 % 512); omega)
  refine (congrArg (outF m c) ej).trans ((outF_tile m c _ _ _).trans ?_)
  refine (outTile_apply m x w hx hw c ⟨(j 0).1 / 1024, hs⟩ ⟨(j 1).1 / 512, ht⟩ ⟨(j 0).1 % 1024, hr⟩ ⟨(j 1).1 % 512, hk⟩
    (by show 1024 * ((j 0).1 / 1024) + (j 0).1 % 1024 < 4096; omega)
    (by show 2048 * c.1 + 512 * ((j 1).1 / 512) + (j 1).1 % 512 < 8192; omega)).trans ?_
  rw [Layout.block_apply]
  unfold refV
  congr 2
  · exact Fin.ext (by show 1024 * ((j 0).1 / 1024) + (j 0).1 % 1024 = (j 0).1; omega)
  · exact Fin.ext (by show 2048 * c.1 + 512 * ((j 1).1 / 512) + (j 1).1 % 512 = c.1 * 2048 + (j 1).1; omega)

/-! ## The reference's term -/

open Cert.ReferenceIdeal in
set_option maxRecDepth 16384 in
/-- The reference cubes `y` and scales the cube; the kernel scales `y` and multiplies on. -/
theorem ref_eq (x : FVec Ideal Cert.ReferenceIdeal.S4096x4096 .f32) (w : FVec Ideal Cert.ReferenceIdeal.S4096x8192 .f32)
    (Y : FVec Ideal Cert.ReferenceIdeal.S4096x8192 .f32)
    (hY : Y = Host.dotGeneral dot_S4096x4096_S4096x8192_S4096x8192_1_0_0_1_n_n none x w) :
    mulf (mulf (broadcastInDim Cert.ReferenceIdeal.S4096x8192 ![] bcast_S_S4096x8192 (constant Cert.ReferenceIdeal.S_ .f32 0x3F000000#32)) Y)
      (addf (broadcastInDim Cert.ReferenceIdeal.S4096x8192 ![] bcast_S_S4096x8192 (constant Cert.ReferenceIdeal.S_ .f32 0x3F800000#32))
        (Host.tanh (mulf (broadcastInDim Cert.ReferenceIdeal.S4096x8192 ![] bcast_S_S4096x8192 (constant Cert.ReferenceIdeal.S_ .f32 0x3F4C422A#32))
          (addf Y (mulf (broadcastInDim Cert.ReferenceIdeal.S4096x8192 ![] bcast_S_S4096x8192 (constant Cert.ReferenceIdeal.S_ .f32 0x3D372713#32))
            (mulf (mulf Y Y) Y)))))) = refV x w := by
  funext j
  have hy : Y j = prodAt x w (j 0) (j 1) := by
    rw [hY]
    pointwise [prodAt]
  unfold refV
  rw [← hy]
  pointwise [gelu]
  simp only [mul_assoc]

end Cert.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Words of every element type exist. -/
theorem nonempty_bits (e : EltTy) : Nonempty (Elt Bits e) := by cases e <;> exact ⟨(0 : BitVec _)⟩
/-- So do ideal values. -/
theorem nonempty_ideal (e : EltTy) : Nonempty (Elt Ideal e) := by
  cases e <;> first | exact ⟨(0 : BitVec _)⟩ | exact ⟨(0 : EReal)⟩

/-- Over any float values the kernel runs to the end and leaves its arguments. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.K.run_main m ρ)

/-- The two programs have the same text: the same kernel body under their one label. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))
theorem defs_eq : Cert.Kernel.defs (F := Bits) = Cert.KernelIdeal.defs (F := Bits) :=
  congrArg (Pipeline.defs Cert.Kernel.pcfgs) bodies_eq

/-- The kernel over words runs to the end. -/
theorem frame_kernel : Cert.quiescent_Kernel := fun m ρ _ => by
  haveI := nonempty_bits
  rw [defs_eq]
  exact frame_any (F := Bits) m ρ

/-- So does it over the extended reals. -/
theorem frame_ideal : Cert.quiescent_KernelIdeal := fun m ρ _ =>
  haveI := nonempty_ideal
  frame_any (F := Ideal) m ρ

/-- The reference has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device ends with its block of the reference's result. -/
theorem value : Cert.algebraic_KernelIdeal_ReferenceIdeal := fun m g m' g' _ hin =>
  haveI := nonempty_ideal
  let v := Cert.K.refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
  ⟨v, (θ_run Cert.KernelIdeal.defs _ _).mono
      (fun _ h c => ⟨(h.1 c).1.trans (Cert.K.outF_block m _ _ (fun c => (hin c).1) (fun c => (hin c).2) c), (h.1 c).2⟩)
      (Cert.K.run_main (F := Ideal) m g),
    (θ_run Cert.ReferenceIdeal.defs _ _).mono (fun _ h => ⟨(h 0).1.trans (Cert.K.ref_eq _ _ _ rfl), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
